-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_distinct_experts [hPre_distinct_experts : Cert.Pre_distinct_experts.Facts] (m : (ℓ : Loc Cert.KernelIdeal.nD Cert.KernelIdeal.τ Cert.KernelIdeal.sig) → Buf (Elt Ideal) ℓ) : Prop :=
  ∀ c : Dev Cert.KernelIdeal.nD,
    (Cert.Pre_distinct_experts.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_distinct_experts [hPre_distinct_experts : Cert.Pre_distinct_experts.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_distinct_experts.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_distinct_experts [hKernelIdeal : Cert.KernelIdeal.Facts] [hPre_distinct_experts : Cert.Pre_distinct_experts.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_distinct_experts m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_distinct_experts [hReferenceIdeal : Cert.ReferenceIdeal.Facts] [hPre_distinct_experts : Cert.Pre_distinct_experts.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_distinct_experts m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_distinct_experts [hKernelIdeal : Cert.KernelIdeal.Facts] [hReferenceIdeal : Cert.ReferenceIdeal.Facts] [hPre_distinct_experts : Cert.Pre_distinct_experts.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_distinct_experts m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v4_0)) (v1 : (c : Dev Cert.KernelIdeal.nD) → Buf (Elt Ideal) ((c.tc : Thread Cert.KernelIdeal.nD Cert.KernelIdeal.τ).loc Cert.KernelIdeal.main_v4_1)) (v2 : (c : Dev Cert.KernelIdeal.nD) → Buf (Elt Ideal) ((c.tc : Thread Cert.KernelIdeal.nD Cert.KernelIdeal.τ).loc Cert.KernelIdeal.main_v4_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4_0) = v0 c
          ∧ r.2.mem ((c.tc : Thread Cert.KernelIdeal.nD Cert.KernelIdeal.τ).loc Cert.KernelIdeal.main_v4_1) = v1 c
          ∧ r.2.mem ((c.tc : Thread Cert.KernelIdeal.nD Cert.KernelIdeal.τ).loc Cert.KernelIdeal.main_v4_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_v45) = v1 c
          ∧ r.2.mem ((c.tc : Thread Cert.ReferenceIdeal.nD Cert.ReferenceIdeal.τ).loc Cert.ReferenceIdeal.main_v41) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_distinct_experts : Cert.Pre_distinct_experts.Facts),
    quiescent_Kernel (hKernel := hKernel)
    ∧ quiescent_KernelIdeal (hKernelIdeal := hKernelIdeal)
    ∧ quiescent_KernelIdeal_pre_distinct_experts (hKernelIdeal := hKernelIdeal) (hPre_distinct_experts := hPre_distinct_experts)
    ∧ quiescent_ReferenceIdeal (hReferenceIdeal := hReferenceIdeal)
    ∧ quiescent_ReferenceIdeal_pre_distinct_experts (hReferenceIdeal := hReferenceIdeal) (hPre_distinct_experts := hPre_distinct_experts)
    ∧ preserves_Kernel_KernelIdeal
    ∧ algebraic_KernelIdeal_ReferenceIdeal_pre_distinct_experts (hKernelIdeal := hKernelIdeal) (hReferenceIdeal := hReferenceIdeal) (hPre_distinct_experts := hPre_distinct_experts)
-- ==== Pre_distinct_experts.lean ====
abbrev S6x256x7168 : Shape := ⟨3, ![6, 256, 7168]⟩
abbrev S6x256x224 : Shape := ⟨3, ![6, 256, 224]⟩
abbrev S7168x128 : Shape := ⟨2, ![7168, 128]⟩
abbrev S6x256x8 : Shape := ⟨3, ![6, 256, 8]⟩
abbrev S6x256x8x8 : Shape := ⟨4, ![6, 256, 8, 8]⟩
abbrev S_ : Shape := ⟨0, ![]⟩

class Facts : Prop where
  bcast_S6x256x8_S6x256x8x8_0_1_2 : S6x256x8.BroadcastsInDim S6x256x8x8 (![0, 1, 2] : Fin 3 → Fin S6x256x8x8.rank)
  bcast_S6x256x8_S6x256x8x8_0_1_3 : S6x256x8.BroadcastsInDim S6x256x8x8 (![0, 1, 3] : Fin 3 → Fin S6x256x8x8.rank)
  bcast_S_S6x256x8x8 : S_.BroadcastsInDim S6x256x8x8 (![] : Fin 0 → Fin S6x256x8x8.rank)

variable [Facts]

def fn {F : FTy → Type} [FloatOps F] (main_arg0 : FVec F S6x256x7168 .fp8e4m3) (main_arg1 : FVec F S6x256x224 .f32) (main_arg2 : FVec F S7168x128 .bf16) (main_arg3 : IVec S6x256x8 32) (main_arg4 : FVec F S6x256x8 .bf16) : IVec S6x256x8x8 1 :=
  let main_v0 : IVec S6x256x8x8 32 := broadcastInDim S6x256x8x8 ![0, 1, 2] bcast_S6x256x8_S6x256x8x8_0_1_2 main_arg3
  let main_v1 : IVec S6x256x8x8 32 := broadcastInDim S6x256x8x8 ![0, 1, 3] bcast_S6x256x8_S6x256x8x8_0_1_3 main_arg3
  let main_v2 : IVec S6x256x8x8 32 := iotaInDim S6x256x8x8 32 2
  let main_v3 : IVec S6x256x8x8 32 := iotaInDim S6x256x8x8 32 3
  let main_v4 : IVec S6x256x8x8 1 := cmpi .eq main_v2 main_v3
  let main_c : IVec S_ 32 := constantI S_ 32 0#32
  let main_v5 : IVec S6x256x8x8 32 := broadcastInDim S6x256x8x8 ![] bcast_S_S6x256x8x8 main_c
  let main_v6 : IVec S6x256x8x8 1 := cmpi .sge main_v0 main_v5
  let main_c_0 : IVec S_ 32 := constantI S_ 32 128#32
  let main_v7 : IVec S6x256x8x8 32 := broadcastInDim S6x256x8x8 ![] bcast_S_S6x256x8x8 main_c_0
  let main_v8 : IVec S6x256x8x8 1 := cmpi .slt main_v0 main_v7
  let main_v9 : IVec S6x256x8x8 1 := andi main_v6 main_v8
  let main_v10 : IVec S6x256x8x8 1 := cmpi .ne main_v0 main_v1
  let main_v11 : IVec S6x256x8x8 1 := ori main_v10 main_v4
  let main_v12 : IVec S6x256x8x8 1 := andi main_v9 main_v11
  main_v12
-- ==== Kernel.lean ====
abbrev S6x256x7168 : Shape := ⟨3, ![6, 256, 7168]⟩
abbrev S6x256x224 : Shape := ⟨3, ![6, 256, 224]⟩
abbrev S7168x128 : Shape := ⟨2, ![7168, 128]⟩
abbrev S6x256x8 : Shape := ⟨3, ![6, 256, 8]⟩
abbrev S1536x7168 : Shape := ⟨2, ![1536, 7168]⟩
abbrev S1536x224 : Shape := ⟨2, ![1536, 224]⟩
abbrev S1536x8 : Shape := ⟨2, ![1536, 8]⟩
abbrev S1536x128 : Shape := ⟨2, ![1536, 128]⟩
abbrev S256x7168 : Shape := ⟨2, ![256, 7168]⟩
abbrev S256x224 : Shape := ⟨2, ![256, 224]⟩
abbrev S256x8 : Shape := ⟨2, ![256, 8]⟩
abbrev S256x128 : Shape := ⟨2, ![256, 128]⟩
abbrev S128x7168 : Shape := ⟨2, ![128, 7168]⟩
abbrev S256x128x1 : Shape := ⟨3, ![256, 128, 1]⟩
abbrev S256x96 : Shape := ⟨2, ![256, 96]⟩
abbrev S256x32 : Shape := ⟨2, ![256, 32]⟩
abbrev S256x1 : Shape := ⟨2, ![256, 1]⟩
abbrev S256 : Shape := ⟨1, ![256]⟩

abbrev nBuf : Space → Nat
  | .hbm => 12
  | .vmem => 16
  | .smem => 0
  | _ => 0

abbrev bufTy : (tb : Table) → Fin (tcTables nBuf tb) → BufTy
  | .hbm, ⟨0, _⟩ => ⟨S6x256x7168, .fp8e4m3⟩
  | .hbm, ⟨1, _⟩ => ⟨S6x256x224, .f32⟩
  | .hbm, ⟨2, _⟩ => ⟨S7168x128, .bf16⟩
  | .hbm, ⟨3, _⟩ => ⟨S6x256x8, .i32⟩
  | .hbm, ⟨4, _⟩ => ⟨S6x256x8, .bf16⟩
  | .hbm, ⟨5, _⟩ => ⟨S1536x7168, .fp8e4m3⟩
  | .hbm, ⟨6, _⟩ => ⟨S1536x224, .f32⟩
  | .hbm, ⟨7, _⟩ => ⟨S1536x8, .i32⟩
  | .hbm, ⟨8, _⟩ => ⟨S1536x8, .bf16⟩
  | .hbm, ⟨9, _⟩ => ⟨S1536x7168, .bf16⟩
  | .hbm, ⟨10, _⟩ => ⟨S7168x128, .f32⟩
  | .hbm, ⟨11, _⟩ => ⟨S1536x128, .f32⟩
  | .local _ .vmem, ⟨0, _⟩ => ⟨S256x7168, .fp8e4m3⟩
  | .local _ .vmem, ⟨1, _⟩ => ⟨S256x7168, .fp8e4m3⟩
  | .local _ .vmem, ⟨2, _⟩ => ⟨S256x224, .f32⟩
  | .local _ .vmem, ⟨3, _⟩ => ⟨S256x224, .f32⟩
  | .local _ .vmem, ⟨4, _⟩ => ⟨S7168x128, .bf16⟩
  | .local _ .vmem, ⟨5, _⟩ => ⟨S256x8, .i32⟩
  | .local _ .vmem, ⟨6, _⟩ => ⟨S256x8, .i32⟩
  | .local _ .vmem, ⟨7, _⟩ => ⟨S256x8, .bf16⟩
  | .local _ .vmem, ⟨8, _⟩ => ⟨S256x8, .bf16⟩
  | .local _ .vmem, ⟨9, _⟩ => ⟨S256x7168, .bf16⟩
  | .local _ .vmem, ⟨10, _⟩ => ⟨S256x7168, .bf16⟩
  | .local _ .vmem, ⟨11, _⟩ => ⟨S7168x128, .f32⟩
  | .local _ .vmem, ⟨12, _⟩ => ⟨S256x128, .f32⟩
  | .local _ .vmem, ⟨13, _⟩ => ⟨S256x128, .f32⟩
  | .local _ .vmem, ⟨14, _⟩ => ⟨S256x7168, .bf16⟩
  | .local _ .vmem, ⟨15, _⟩ => ⟨S128x7168, .f32⟩
  | _, _ => ⟨S6x256x7168, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v4_2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![6], ![false]⟩

def k0_cond3 (i : grid0.Coords) : BitVec 1 :=
  let arg0 : BitVec 32 := BitVec.ofNat 32 (i 0).val
  let c5_i32 : BitVec 32 := 5#32
  let v1279 : BitVec 1 := Scalar.cmpi .eq arg0 c5_i32
  let v1280 : BitVec 32 := Scalar.extui v1279
  let c0_i32_370 : BitVec 32 := 0#32
  let v1281 : BitVec 1 := Scalar.cmpi .ne v1280 c0_i32_370
  v1281

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x7168 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x224 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S7168x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x8 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x8 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x7168 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S7168x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceIdeal.lean ====
abbrev S6x256x7168 : Shape := ⟨3, ![6, 256, 7168]⟩
abbrev S6x256x224 : Shape := ⟨3, ![6, 256, 224]⟩
abbrev S7168x128 : Shape := ⟨2, ![7168, 128]⟩
abbrev S6x256x8 : Shape := ⟨3, ![6, 256, 8]⟩
abbrev S1536x7168 : Shape := ⟨2, ![1536, 7168]⟩
abbrev S1536x224x32 : Shape := ⟨3, ![1536, 224, 32]⟩
abbrev S1536x224 : Shape := ⟨2, ![1536, 224]⟩
abbrev S1536x224x1 : Shape := ⟨3, ![1536, 224, 1]⟩
abbrev S1536x128 : Shape := ⟨2, ![1536, 128]⟩
abbrev S1536x8 : Shape := ⟨2, ![1536, 8]⟩
abbrev S1536x8x1 : Shape := ⟨3, ![1536, 8, 1]⟩
abbrev S128 : Shape := ⟨1, ![128]⟩
abbrev S1x1x128 : Shape := ⟨3, ![1, 1, 128]⟩
abbrev S1536x8x128 : Shape := ⟨3, ![1536, 8, 128]⟩
abbrev S1536x1x128 : Shape := ⟨3, ![1536, 1, 128]⟩
abbrev S_ : Shape := ⟨0, ![]⟩
abbrev S1536 : Shape := ⟨1, ![1536]⟩
abbrev S1536x1 : Shape := ⟨2, ![1536, 1]⟩

abbrev nBuf : Space → Nat
  | .hbm => 65
  | .vmem => 2
  | .smem => 0
  | _ => 0

abbrev bufTy : (tb : Table) → Fin (tcTables nBuf tb) → BufTy
  | .hbm, ⟨0, _⟩ => ⟨S6x256x7168, .fp8e4m3⟩
  | .hbm, ⟨1, _⟩ => ⟨S6x256x224, .f32⟩
  | .hbm, ⟨2, _⟩ => ⟨S7168x128, .bf16⟩
  | .hbm, ⟨3, _⟩ => ⟨S6x256x8, .i32⟩
  | .hbm, ⟨4, _⟩ => ⟨S6x256x8, .bf16⟩
  | .hbm, ⟨5, _⟩ => ⟨S1536x7168, .fp8e4m3⟩
  | .hbm, ⟨6, _⟩ => ⟨S1536x7168, .bf16⟩
  | .hbm, ⟨7, _⟩ => ⟨S1536x224x32, .bf16⟩
  | .hbm, ⟨8, _⟩ => ⟨S1536x224, .f32⟩
  | .hbm, ⟨9, _⟩ => ⟨S1536x224, .bf16⟩
  | .hbm, ⟨10, _⟩ => ⟨S1536x224x1, .bf16⟩
  | .hbm, ⟨11, _⟩ => ⟨S1536x224x32, .bf16⟩
  | .hbm, ⟨12, _⟩ => ⟨S1536x224x32, .bf16⟩
  | .hbm, ⟨13, _⟩ => ⟨S1536x7168, .bf16⟩
  | .hbm, ⟨14, _⟩ => ⟨S1536x128, .f32⟩
  | .hbm, ⟨15, _⟩ => ⟨S1536x8, .i32⟩
  | .hbm, ⟨16, _⟩ => ⟨S1536x8x1, .i32⟩
  | .hbm, ⟨17, _⟩ => ⟨S128, .i32⟩
  | .hbm, ⟨18, _⟩ => ⟨S1x1x128, .i32⟩
  | .hbm, ⟨19, _⟩ => ⟨S1536x8x128, .i32⟩
  | .hbm, ⟨20, _⟩ => ⟨S1536x8x128, .i32⟩
  | .hbm, ⟨21, _⟩ => ⟨S1536x8x128, .i1⟩
  | .hbm, ⟨22, _⟩ => ⟨S1536x1x128, .f32⟩
  | .hbm, ⟨23, _⟩ => ⟨S_, .f32⟩
  | .hbm, ⟨24, _⟩ => ⟨S_, .f32⟩
  | .hbm, ⟨25, _⟩ => ⟨S1536x8x128, .f32⟩
  | .hbm, ⟨26, _⟩ => ⟨S1536x8x128, .f32⟩
  | .hbm, ⟨27, _⟩ => ⟨S1536x8x128, .f32⟩
  | .hbm, ⟨28, _⟩ => ⟨S_, .f32⟩
  | .hbm, ⟨29, _⟩ => ⟨S1536x8, .f32⟩
  | .hbm, ⟨30, _⟩ => ⟨S_, .f32⟩
  | .hbm, ⟨31, _⟩ => ⟨S1536, .f32⟩
  | .hbm, ⟨32, _⟩ => ⟨S_, .f32⟩
  | .hbm, ⟨33, _⟩ => ⟨S1536, .f32⟩
  | .hbm, ⟨34, _⟩ => ⟨S1536, .f32⟩
  | .hbm, ⟨35, _⟩ => ⟨S1536x1, .f32⟩
  | .hbm, ⟨36, _⟩ => ⟨S1536x8, .f32⟩
  | .hbm, ⟨37, _⟩ => ⟨S1536x8, .f32⟩
  | .hbm, ⟨38, _⟩ => ⟨S1536x8, .f32⟩
  | .hbm, ⟨39, _⟩ => ⟨S_, .f32⟩
  | .hbm, ⟨40, _⟩ => ⟨S1536, .f32⟩
  | .hbm, ⟨41, _⟩ => ⟨S1536x1, .f32⟩
  | .hbm, ⟨42, _⟩ => ⟨S1536x8, .f32⟩
  | .hbm, ⟨43, _⟩ => ⟨S1536x8, .f32⟩
  | .hbm, ⟨44, _⟩ => ⟨S1536x8, .bf16⟩
  | .hbm, ⟨45, _⟩ => ⟨S1536x8, .f32⟩
  | .hbm, ⟨46, _⟩ => ⟨S1536x8, .f32⟩
  | .hbm, ⟨47, _⟩ => ⟨S_, .f32⟩
  | .hbm, ⟨48, _⟩ => ⟨S1536, .f32⟩
  | .hbm, ⟨49, _⟩ => ⟨S1536x1, .f32⟩
  | .hbm, ⟨50, _⟩ => ⟨S1536x8, .f32⟩
  | .hbm, ⟨51, _⟩ => ⟨S1536x8, .f32⟩
  | .hbm, ⟨52, _⟩ => ⟨S1536x8, .f32⟩
  | .hbm, ⟨53, _⟩ => ⟨S1536x8x1, .f32⟩
  | .hbm, ⟨54, _⟩ => ⟨S_, .f32⟩
  | .hbm, ⟨55, _⟩ => ⟨S_, .f32⟩
  | .hbm, ⟨56, _⟩ => ⟨S1536x8x128, .f32⟩
  | .hbm, ⟨57, _⟩ => ⟨S1536x8x128, .f32⟩
  | .hbm, ⟨58, _⟩ => ⟨S1536x8x128, .f32⟩
  | .hbm, ⟨59, _⟩ => ⟨S_, .f32⟩
  | .hbm, ⟨60, _⟩ => ⟨S1536x128, .f32⟩
  | .hbm, ⟨61, _⟩ => ⟨S1536x128, .bf16⟩
  | .hbm, ⟨62, _⟩ => ⟨S1536x7168, .f32⟩
  | .hbm, ⟨63, _⟩ => ⟨S1536x7168, .bf16⟩
  | .hbm, ⟨64, _⟩ => ⟨S7168x128, .f32⟩
  | .local _ .vmem, ⟨0, _⟩ => ⟨S1536x7168, .fp8e4m3⟩
  | .local _ .vmem, ⟨1, _⟩ => ⟨S1536x7168, .bf16⟩
  | _, _ => ⟨S6x256x7168, .fp8e4m3⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_cst : Ref sig .tc := ⟨.hbm, 23, rfl⟩
abbrev main_call0_v0 : Ref sig .tc := ⟨.hbm, 24, rfl⟩
abbrev main_call0_v1 : Ref sig .tc := ⟨.hbm, 25, rfl⟩
abbrev main_call0_v2 : Ref sig .tc := ⟨.hbm, 26, rfl⟩
abbrev main_v18 : Ref sig .tc := ⟨.hbm, 27, rfl⟩
abbrev main_cst_0 : Ref sig .tc := ⟨.hbm, 28, rfl⟩
abbrev main_v19 : Ref sig .tc := ⟨.hbm, 29, rfl⟩
abbrev main_cst_1 : Ref sig .tc := ⟨.hbm, 30, rfl⟩
abbrev main_v20 : Ref sig .tc := ⟨.hbm, 31, rfl⟩
abbrev main_cst_2 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_3 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst_4 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_cst_5 : Ref sig .tc := ⟨.hbm, 54, rfl⟩
abbrev main_call1_v0 : Ref sig .tc := ⟨.hbm, 55, rfl⟩
abbrev main_call1_v1 : Ref sig .tc := ⟨.hbm, 56, rfl⟩
abbrev main_call1_v2 : Ref sig .tc := ⟨.hbm, 57, rfl⟩
abbrev main_v40 : Ref sig .tc := ⟨.hbm, 58, rfl⟩
abbrev main_cst_6 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S1536x7168 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1536x7168 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== Proof.Tile.lean ====
/-
  One grid point's work, named. The body stores the dequantised tile into a scratch in 56 chunks of 128 columns, loads it back twice, and makes three
  results of it: the tile's logit gradients, its rows of `dx`, and its contribution to `dw`. This module writes the 56 stores down as one list, names the
  three results as functions of the tile and of the blocks the point reads, and shows that these are what the run leaves in the output blocks and in the
  accumulator, at the first, the middle and the last grid point.
-/
module

public import proofs.«01_k».proof.Proof.Gen.KernelIdeal.Value
public import Idealize.ShloMosaic.Lib.Pipeline.ValueKit
public import Idealize.ShloMosaic.Lib.Pipeline.ReadBack

@[expose] public section

set_option maxRecDepth 16384

noncomputable section

namespace Cert.KernelIdeal.Tile

open Cert.KernelIdeal Cert.KernelIdeal.Gen Idealize.ShloMosaic Idealize.ShloMosaic.TcCoe Idealize.SL.Sem

variable {F : FTy → Type} [FloatOps F]

/-- The 56 stores that fill the scratch with the dequantised tile, the last one first: each a rectangle of 128 columns and what is stored there, from the
block of codes `x0` and the block of scales `x1`. -/
def pieces (x0 : Vec F S256x7168 .fp8e4m3) (x1 : Vec F S256x224 .f32) : List (View.Piece (Elt F) S256x7168 .bf16) :=
  [⟨Rect.unit ![0, 7040] ![256, 128] inb_S256x7168_S256x128_0_7040, k0_pay107 k0_pay4 (k0_pay105 (k0_pay5 x1)) k0_pay106 (View.ld x0 (Rect.unit ![0, 7040] ![256, 128] inb_S256x7168_S256x128_0_7040))⟩,
   ⟨Rect.unit ![0, 6912] ![256, 128] inb_S256x7168_S256x128_0_6912, k0_pay104 k0_pay4 (k0_pay5 x1) (View.ld x0 (Rect.unit ![0, 6912] ![256, 128] inb_S256x7168_S256x128_0_6912))⟩,
   ⟨Rect.unit ![0, 6784] ![256, 128] inb_S256x7168_S256x128_0_6784, k0_pay103 k0_pay4 (k0_pay102 (k0_pay5 x1)) (84#32) (View.ld x0 (Rect.unit ![0, 6784] ![256, 128] inb_S256x7168_S256x128_0_6784))⟩,
   ⟨Rect.unit ![0, 6656] ![256, 128] inb_S256x7168_S256x128_0_6656, k0_pay101 k0_pay4 (k0_pay5 x1) (View.ld x0 (Rect.unit ![0, 6656] ![256, 128] inb_S256x7168_S256x128_0_6656))⟩,
   ⟨Rect.unit ![0, 6528] ![256, 128] inb_S256x7168_S256x128_0_6528, k0_pay100 (k0_pay98 (k0_pay5 x1)) (k0_pay99 k0_pay4) (View.ld x0 (Rect.unit ![0, 6528] ![256, 128] inb_S256x7168_S256x128_0_6528))⟩,
   ⟨Rect.unit ![0, 6400] ![256, 128] inb_S256x7168_S256x128_0_6400, k0_pay97 k0_pay4 (k0_pay5 x1) (View.ld x0 (Rect.unit ![0, 6400] ![256, 128] inb_S256x7168_S256x128_0_6400))⟩,
   ⟨Rect.unit ![0, 6272] ![256, 128] inb_S256x7168_S256x128_0_6272, k0_pay96 (k0_pay93 (k0_pay5 x1)) (k0_pay94 k0_pay4) k0_pay95 (View.ld x0 (Rect.unit ![0, 6272] ![256, 128] inb_S256x7168_S256x128_0_6272))⟩,
   ⟨Rect.unit ![0, 6144] ![256, 128] inb_S256x7168_S256x128_0_6144, k0_pay92 k0_pay4 (k0_pay5 x1) (View.ld x0 (Rect.unit ![0, 6144] ![256, 128] inb_S256x7168_S256x128_0_6144))⟩,
   ⟨Rect.unit ![0, 6016] ![256, 128] inb_S256x7168_S256x128_0_6016, k0_pay91 (k0_pay88 (k0_pay5 x1)) (k0_pay89 k0_pay4) (k0_pay90 k0_pay4) (128#32) (View.ld x0 (Rect.unit ![0, 6016] ![256, 128] inb_S256x7168_S256x128_0_6016))⟩,
   ⟨Rect.unit ![0, 5888] ![256, 128] inb_S256x7168_S256x128_0_5888, k0_pay87 k0_pay4 (k0_pay5 x1) (View.ld x0 (Rect.unit ![0, 5888] ![256, 128] inb_S256x7168_S256x128_0_5888))⟩,
   ⟨Rect.unit ![0, 5760] ![256, 128] inb_S256x7168_S256x128_0_5760, k0_pay86 (k0_pay82 (k0_pay5 x1)) (k0_pay83 k0_pay4) (k0_pay84 k0_pay4) (k0_pay85 k0_pay4) (View.ld x0 (Rect.unit ![0, 5760] ![256, 128] inb_S256x7168_S256x128_0_5760))⟩,
   ⟨Rect.unit ![0, 5632] ![256, 128] inb_S256x7168_S256x128_0_5632, k0_pay81 k0_pay4 (k0_pay5 x1) (View.ld x0 (Rect.unit ![0, 5632] ![256, 128] inb_S256x7168_S256x128_0_5632))⟩,
   ⟨Rect.unit ![0, 5504] ![256, 128] inb_S256x7168_S256x128_0_5504, k0_pay80 (k0_pay78 (k0_pay5 x1)) (k0_pay79 k0_pay4) (View.ld x0 (Rect.unit ![0, 5504] ![256, 128] inb_S256x7168_S256x128_0_5504))⟩,
   ⟨Rect.unit ![0, 5376] ![256, 128] inb_S256x7168_S256x128_0_5376, k0_pay77 k0_pay4 (k0_pay5 x1) (View.ld x0 (Rect.unit ![0, 5376] ![256, 128] inb_S256x7168_S256x128_0_5376))⟩,
   ⟨Rect.unit ![0, 5248] ![256, 128] inb_S256x7168_S256x128_0_5248, k0_pay76 (k0_pay75 k0_pay4 (k0_pay5 x1)) (View.ld x0 (Rect.unit ![0, 5248] ![256, 128] inb_S256x7168_S256x128_0_5248))⟩,
   ⟨Rect.unit ![0, 5120] ![256, 128] inb_S256x7168_S256x128_0_5120, k0_pay74 k0_pay4 (k0_pay5 x1) (View.ld x0 (Rect.unit ![0, 5120] ![256, 128] inb_S256x7168_S256x128_0_5120))⟩,
   ⟨Rect.unit ![0, 4992] ![256, 128] inb_S256x7168_S256x128_0_4992, k0_pay73 (k0_pay72 k0_pay4 (k0_pay5 x1)) (View.ld x0 (Rect.unit ![0, 4992] ![256, 128] inb_S256x7168_S256x128_0_4992))⟩,
   ⟨Rect.unit ![0, 4864] ![256, 128] inb_S256x7168_S256x128_0_4864, k0_pay71 k0_pay4 (k0_pay5 x1) (View.ld x0 (Rect.unit ![0, 4864] ![256, 128] inb_S256x7168_S256x128_0_4864))⟩,
   ⟨Rect.unit ![0, 4736] ![256, 128] inb_S256x7168_S256x128_0_4736, k0_pay70 (k0_pay69 k0_pay4 (k0_pay5 x1)) (View.ld x0 (Rect.unit ![0, 4736] ![256, 128] inb_S256x7168_S256x128_0_4736))⟩,
   ⟨Rect.unit ![0, 4608] ![256, 128] inb_S256x7168_S256x128_0_4608, k0_pay68 k0_pay4 (k0_pay5 x1) (View.ld x0 (Rect.unit ![0, 4608] ![256, 128] inb_S256x7168_S256x128_0_4608))⟩,
   ⟨Rect.unit ![0, 4480] ![256, 128] inb_S256x7168_S256x128_0_4480, k0_pay67 (k0_pay65 k0_pay4 (k0_pay5 x1)) (k0_pay66 (View.ld x0 (Rect.unit ![0, 4480] ![256, 128] inb_S256x7168_S256x128_0_4480)))⟩,
   ⟨Rect.unit ![0, 4352] ![256, 128] inb_S256x7168_S256x128_0_4352, k0_pay64 k0_pay4 (k0_pay5 x1) (View.ld x0 (Rect.unit ![0, 4352] ![256, 128] inb_S256x7168_S256x128_0_4352))⟩,
   ⟨Rect.unit ![0, 4224] ![256, 128] inb_S256x7168_S256x128_0_4224, k0_pay63 (k0_pay62 k0_pay4 (k0_pay5 x1) (View.ld x0 (Rect.unit ![0, 4224] ![256, 128] inb_S256x7168_S256x128_0_4224)))⟩,
   ⟨Rect.unit ![0, 4096] ![256, 128] inb_S256x7168_S256x128_0_4096, k0_pay61 k0_pay4 (k0_pay5 x1) (View.ld x0 (Rect.unit ![0, 4096] ![256, 128] inb_S256x7168_S256x128_0_4096))⟩,
   ⟨Rect.unit ![0, 3968] ![256, 128] inb_S256x7168_S256x128_0_3968, k0_pay60 (k0_pay59 k0_pay4 (k0_pay5 x1) (View.ld x0 (Rect.unit ![0, 3968] ![256, 128] inb_S256x7168_S256x128_0_3968)))⟩,
   ⟨Rect.unit ![0, 3840] ![256, 128] inb_S256x7168_S256x128_0_3840, k0_pay58 k0_pay4 (k0_pay5 x1) (View.ld x0 (Rect.unit ![0, 3840] ![256, 128] inb_S256x7168_S256x128_0_3840))⟩,
   ⟨Rect.unit ![0, 3712] ![256, 128] inb_S256x7168_S256x128_0_3712, k0_pay57 (k0_pay56 k0_pay4 (k0_pay5 x1)) (View.ld x0 (Rect.unit ![0, 3712] ![256, 128] inb_S256x7168_S256x128_0_3712))⟩,
   ⟨Rect.unit ![0, 3584] ![256, 128] inb_S256x7168_S256x128_0_3584, k0_pay55 k0_pay4 (k0_pay5 x1) (View.ld x0 (Rect.unit ![0, 3584] ![256, 128] inb_S256x7168_S256x128_0_3584))⟩,
   ⟨Rect.unit ![0, 3456] ![256, 128] inb_S256x7168_S256x128_0_3456, k0_pay54 (k0_pay52 (k0_pay5 x1)) (k0_pay53 k0_pay4) (View.ld x0 (Rect.unit ![0, 3456] ![256, 128] inb_S256x7168_S256x128_0_3456))⟩,
   ⟨Rect.unit ![0, 3328] ![256, 128] inb_S256x7168_S256x128_0_3328, k0_pay51 k0_pay4 (k0_pay5 x1) (View.ld x0 (Rect.unit ![0, 3328] ![256, 128] inb_S256x7168_S256x128_0_3328))⟩,
   ⟨Rect.unit ![0, 3200] ![256, 128] inb_S256x7168_S256x128_0_3200, k0_pay50 (k0_pay47 (k0_pay5 x1)) (k0_pay48 k0_pay4) k0_pay49 (View.ld x0 (Rect.unit ![0, 3200] ![256, 128] inb_S256x7168_S256x128_0_3200))⟩,
   ⟨Rect.unit ![0, 3072] ![256, 128] inb_S256x7168_S256x128_0_3072, k0_pay46 k0_pay4 (k0_pay5 x1) (View.ld x0 (Rect.unit ![0, 3072] ![256, 128] inb_S256x7168_S256x128_0_3072))⟩,
   ⟨Rect.unit ![0, 2944] ![256, 128] inb_S256x7168_S256x128_0_2944, k0_pay45 k0_pay4 (k0_pay5 x1) (View.ld x0 (Rect.unit ![0, 2944] ![256, 128] inb_S256x7168_S256x128_0_2944))⟩,
   ⟨Rect.unit ![0, 2816] ![256, 128] inb_S256x7168_S256x128_0_2816, k0_pay44 k0_pay4 (k0_pay5 x1) (View.ld x0 (Rect.unit ![0, 2816] ![256, 128] inb_S256x7168_S256x128_0_2816))⟩,
   ⟨Rect.unit ![0, 2688] ![256, 128] inb_S256x7168_S256x128_0_2688, k0_pay43 k0_pay4 (k0_pay5 x1) (View.ld x0 (Rect.unit ![0, 2688] ![256, 128] inb_S256x7168_S256x128_0_2688))⟩,
   ⟨Rect.unit ![0, 2560] ![256, 128] inb_S256x7168_S256x128_0_2560, k0_pay42 (k0_pay41 k0_pay4 (k0_pay5 x1) (View.ld x0 (Rect.unit ![0, 2560] ![256, 128] inb_S256x7168_S256x128_0_2560)))⟩,
   ⟨Rect.unit ![0, 2432] ![256, 128] inb_S256x7168_S256x128_0_2432, k0_pay40 k0_pay4 (k0_pay5 x1) (View.ld x0 (Rect.unit ![0, 2432] ![256, 128] inb_S256x7168_S256x128_0_2432))⟩,
   ⟨Rect.unit ![0, 2304] ![256, 128] inb_S256x7168_S256x128_0_2304, k0_pay39 (k0_pay38 k0_pay4 (k0_pay5 x1)) (View.ld x0 (Rect.unit ![0, 2304] ![256, 128] inb_S256x7168_S256x128_0_2304))⟩,
   ⟨Rect.unit ![0, 2176] ![256, 128] inb_S256x7168_S256x128_0_2176, k0_pay37 k0_pay4 (k0_pay5 x1) (View.ld x0 (Rect.unit ![0, 2176] ![256, 128] inb_S256x7168_S256x128_0_2176))⟩,
   ⟨Rect.unit ![0, 2048] ![256, 128] inb_S256x7168_S256x128_0_2048, k0_pay36 (k0_pay32 (k0_pay5 x1)) (k0_pay33 k0_pay4) (k0_pay34 k0_pay4) k0_pay35 (View.ld x0 (Rect.unit ![0, 2048] ![256, 128] inb_S256x7168_S256x128_0_2048))⟩,
   ⟨Rect.unit ![0, 1920] ![256, 128] inb_S256x7168_S256x128_0_1920, k0_pay31 k0_pay4 (k0_pay5 x1) (View.ld x0 (Rect.unit ![0, 1920] ![256, 128] inb_S256x7168_S256x128_0_1920))⟩,
   ⟨Rect.unit ![0, 1792] ![256, 128] inb_S256x7168_S256x128_0_1792, k0_pay30 k0_pay4 (k0_pay28 (k0_pay5 x1)) k0_pay29 (View.ld x0 (Rect.unit ![0, 1792] ![256, 128] inb_S256x7168_S256x128_0_1792))⟩,
   ⟨Rect.unit ![0, 1664] ![256, 128] inb_S256x7168_S256x128_0_1664, k0_pay27 k0_pay4 (k0_pay5 x1) (View.ld x0 (Rect.unit ![0, 1664] ![256, 128] inb_S256x7168_S256x128_0_1664))⟩,
   ⟨Rect.unit ![0, 1536] ![256, 128] inb_S256x7168_S256x128_0_1536, k0_pay26 k0_pay4 (k0_pay5 x1) (View.ld x0 (Rect.unit ![0, 1536] ![256, 128] inb_S256x7168_S256x128_0_1536))⟩,
   ⟨Rect.unit ![0, 1408] ![256, 128] inb_S256x7168_S256x128_0_1408, k0_pay25 (k0_pay24 k0_pay4 (k0_pay5 x1) (View.ld x0 (Rect.unit ![0, 1408] ![256, 128] inb_S256x7168_S256x128_0_1408)))⟩,
   ⟨Rect.unit ![0, 1280] ![256, 128] inb_S256x7168_S256x128_0_1280, k0_pay23 k0_pay4 (k0_pay5 x1) (View.ld x0 (Rect.unit ![0, 1280] ![256, 128] inb_S256x7168_S256x128_0_1280))⟩,
   ⟨Rect.unit ![0, 1152] ![256, 128] inb_S256x7168_S256x128_0_1152, k0_pay22 (k0_pay21 k0_pay4 (k0_pay5 x1)) (View.ld x0 (Rect.unit ![0, 1152] ![256, 128] inb_S256x7168_S256x128_0_1152))⟩,
   ⟨Rect.unit ![0, 1024] ![256, 128] inb_S256x7168_S256x128_0_1024, k0_pay20 k0_pay4 (k0_pay5 x1) (View.ld x0 (Rect.unit ![0, 1024] ![256, 128] inb_S256x7168_S256x128_0_1024))⟩,
   ⟨Rect.unit ![0, 896] ![256, 128] inb_S256x7168_S256x128_0_896, k0_pay19 (k0_pay17 (k0_pay5 x1)) (k0_pay18 k0_pay4) (View.ld x0 (Rect.unit ![0, 896] ![256, 128] inb_S256x7168_S256x128_0_896))⟩,
   ⟨Rect.unit ![0, 768] ![256, 128] inb_S256x7168_S256x128_0_768, k0_pay16 k0_pay4 (k0_pay5 x1) (View.ld x0 (Rect.unit ![0, 768] ![256, 128] inb_S256x7168_S256x128_0_768))⟩,
   ⟨Rect.unit ![0, 640] ![256, 128] inb_S256x7168_S256x128_0_640, k0_pay15 (k0_pay12 (k0_pay5 x1)) (k0_pay13 k0_pay4) k0_pay14 (View.ld x0 (Rect.unit ![0, 640] ![256, 128] inb_S256x7168_S256x128_0_640))⟩,
   ⟨Rect.unit ![0, 512] ![256, 128] inb_S256x7168_S256x128_0_512, k0_pay11 k0_pay4 (k0_pay5 x1) (View.ld x0 (Rect.unit ![0, 512] ![256, 128] inb_S256x7168_S256x128_0_512))⟩,
   ⟨Rect.unit ![0, 384] ![256, 128] inb_S256x7168_S256x128_0_384, k0_pay10 k0_pay4 (k0_pay5 x1) (View.ld x0 (Rect.unit ![0, 384] ![256, 128] inb_S256x7168_S256x128_0_384))⟩,
   ⟨Rect.unit ![0, 256] ![256, 128] inb_S256x7168_S256x128_0_256, k0_pay9 k0_pay4 (k0_pay5 x1) (View.ld x0 (Rect.unit ![0, 256] ![256, 128] inb_S256x7168_S256x128_0_256))⟩,
   ⟨Rect.unit ![0, 128] ![256, 128] inb_S256x7168_S256x128_0_128, k0_pay8 k0_pay4 (k0_pay5 x1) (View.ld x0 (Rect.unit ![0, 128] ![256, 128] inb_S256x7168_S256x128_0_128))⟩,
   ⟨Rect.unit ![0, 0] ![256, 128] inb_S256x7168_S256x128_0_0, k0_pay7 (k0_pay6 x1 (View.ld x0 (Rect.unit ![0, 0] ![256, 128] inb_S256x7168_S256x128_0_0)))⟩]

/-- The tile the body loads back from the scratch once the 56 stores are made. -/
def xb (x0 : Vec F S256x7168 .fp8e4m3) (x1 : Vec F S256x224 .f32) : Vec F S256x7168 .bf16 :=
  (View.whole cc0_scratch0).readCov (pieces x0 x1) (Rect.unit (s := S256x7168) ![0, 0] ![256, 7168] inb_S256x7168_S256x7168_0_0).toLoadRect

/-- The tile's gradients with respect to the logits, from the dequantised tile `X`, the router weights, and the point's blocks of expert ids and of gate
gradients. -/
def dl (X : Vec F S256x7168 .bf16) (w : Vec F S7168x128 .bf16) (ids : Vec F S256x8 .i32) (dg : Vec F S256x8 .bf16) : Vec F S256x128 .f32 :=
  k0_pay123 (k0_pay108 X w) (iota Kind.tc S256x128 32 [1] iota_S256x128_d1_w32) (k0_pay109 dg) (k0_pay119 (iota Kind.tc S256x128 32 [1] iota_S256x128_d1_w32) (k0_pay109 dg) (k0_pay112 dg
    (View.ld ids (Rect.unit ![0, 0] ![256, 1] inb_S256x8_S256x1_0_0))) (k0_pay113
    (View.ld ids (Rect.unit ![0, 1] ![256, 1] inb_S256x8_S256x1_0_1)))
    (View.ld ids (Rect.unit ![0, 2] ![256, 1] inb_S256x8_S256x1_0_2))
    (View.ld ids (Rect.unit ![0, 3] ![256, 1] inb_S256x8_S256x1_0_3))
    (View.ld ids (Rect.unit ![0, 4] ![256, 1] inb_S256x8_S256x1_0_4))
    (View.ld ids (Rect.unit ![0, 5] ![256, 1] inb_S256x8_S256x1_0_5))) (k0_pay120 (iota Kind.tc S256x128 32 [1] iota_S256x128_d1_w32)
    (View.ld ids (Rect.unit ![0, 6] ![256, 1] inb_S256x8_S256x1_0_6))) (k0_pay121 (iota Kind.tc S256x128 32 [1] iota_S256x128_d1_w32) (k0_pay111
    (View.ld ids (Rect.unit ![0, 0] ![256, 1] inb_S256x8_S256x1_0_0))) (k0_pay113
    (View.ld ids (Rect.unit ![0, 1] ![256, 1] inb_S256x8_S256x1_0_1)))
    (View.ld ids (Rect.unit ![0, 2] ![256, 1] inb_S256x8_S256x1_0_2))
    (View.ld ids (Rect.unit ![0, 3] ![256, 1] inb_S256x8_S256x1_0_3))
    (View.ld ids (Rect.unit ![0, 4] ![256, 1] inb_S256x8_S256x1_0_4))
    (View.ld ids (Rect.unit ![0, 5] ![256, 1] inb_S256x8_S256x1_0_5))
    (View.ld ids (Rect.unit ![0, 6] ![256, 1] inb_S256x8_S256x1_0_6))) (k0_pay122 (k0_pay109 dg))
    (View.ld ids (Rect.unit ![0, 7] ![256, 1] inb_S256x8_S256x1_0_7))

/-- The tile's rows of `dx`. -/
def dx (X : Vec F S256x7168 .bf16) (w : Vec F S7168x128 .bf16) (ids : Vec F S256x8 .i32) (dg : Vec F S256x8 .bf16) : Vec F S256x7168 .bf16 :=
  k0_pay125 (k0_pay108 X w) (iota Kind.tc S256x128 32 [1] iota_S256x128_d1_w32) (k0_pay109 dg) (k0_pay119 (iota Kind.tc S256x128 32 [1] iota_S256x128_d1_w32) (k0_pay109 dg) (k0_pay112 dg
    (View.ld ids (Rect.unit ![0, 0] ![256, 1] inb_S256x8_S256x1_0_0))) (k0_pay113
    (View.ld ids (Rect.unit ![0, 1] ![256, 1] inb_S256x8_S256x1_0_1)))
    (View.ld ids (Rect.unit ![0, 2] ![256, 1] inb_S256x8_S256x1_0_2))
    (View.ld ids (Rect.unit ![0, 3] ![256, 1] inb_S256x8_S256x1_0_3))
    (View.ld ids (Rect.unit ![0, 4] ![256, 1] inb_S256x8_S256x1_0_4))
    (View.ld ids (Rect.unit ![0, 5] ![256, 1] inb_S256x8_S256x1_0_5))) (k0_pay120 (iota Kind.tc S256x128 32 [1] iota_S256x128_d1_w32)
    (View.ld ids (Rect.unit ![0, 6] ![256, 1] inb_S256x8_S256x1_0_6))) (k0_pay121 (iota Kind.tc S256x128 32 [1] iota_S256x128_d1_w32) (k0_pay111
    (View.ld ids (Rect.unit ![0, 0] ![256, 1] inb_S256x8_S256x1_0_0))) (k0_pay113
    (View.ld ids (Rect.unit ![0, 1] ![256, 1] inb_S256x8_S256x1_0_1)))
    (View.ld ids (Rect.unit ![0, 2] ![256, 1] inb_S256x8_S256x1_0_2))
    (View.ld ids (Rect.unit ![0, 3] ![256, 1] inb_S256x8_S256x1_0_3))
    (View.ld ids (Rect.unit ![0, 4] ![256, 1] inb_S256x8_S256x1_0_4))
    (View.ld ids (Rect.unit ![0, 5] ![256, 1] inb_S256x8_S256x1_0_5))
    (View.ld ids (Rect.unit ![0, 6] ![256, 1] inb_S256x8_S256x1_0_6))) (k0_pay122 (k0_pay109 dg))
    (View.ld ids (Rect.unit ![0, 7] ![256, 1] inb_S256x8_S256x1_0_7)) w

/-- The tile's contribution to the transposed `dw`. -/
def part (X : Vec F S256x7168 .bf16) (w : Vec F S7168x128 .bf16) (ids : Vec F S256x8 .i32) (dg : Vec F S256x8 .bf16) : Vec F S128x7168 .f32 :=
  k0_pay126 (k0_pay108 X w) (iota Kind.tc S256x128 32 [1] iota_S256x128_d1_w32) (k0_pay109 dg) (k0_pay119 (iota Kind.tc S256x128 32 [1] iota_S256x128_d1_w32) (k0_pay109 dg) (k0_pay112 dg
    (View.ld ids (Rect.unit ![0, 0] ![256, 1] inb_S256x8_S256x1_0_0))) (k0_pay113
    (View.ld ids (Rect.unit ![0, 1] ![256, 1] inb_S256x8_S256x1_0_1)))
    (View.ld ids (Rect.unit ![0, 2] ![256, 1] inb_S256x8_S256x1_0_2))
    (View.ld ids (Rect.unit ![0, 3] ![256, 1] inb_S256x8_S256x1_0_3))
    (View.ld ids (Rect.unit ![0, 4] ![256, 1] inb_S256x8_S256x1_0_4))
    (View.ld ids (Rect.unit ![0, 5] ![256, 1] inb_S256x8_S256x1_0_5))) (k0_pay120 (iota Kind.tc S256x128 32 [1] iota_S256x128_d1_w32)
    (View.ld ids (Rect.unit ![0, 6] ![256, 1] inb_S256x8_S256x1_0_6))) (k0_pay121 (iota Kind.tc S256x128 32 [1] iota_S256x128_d1_w32) (k0_pay111
    (View.ld ids (Rect.unit ![0, 0] ![256, 1] inb_S256x8_S256x1_0_0))) (k0_pay113
    (View.ld ids (Rect.unit ![0, 1] ![256, 1] inb_S256x8_S256x1_0_1)))
    (View.ld ids (Rect.unit ![0, 2] ![256, 1] inb_S256x8_S256x1_0_2))
    (View.ld ids (Rect.unit ![0, 3] ![256, 1] inb_S256x8_S256x1_0_3))
    (View.ld ids (Rect.unit ![0, 4] ![256, 1] inb_S256x8_S256x1_0_4))
    (View.ld ids (Rect.unit ![0, 5] ![256, 1] inb_S256x8_S256x1_0_5))
    (View.ld ids (Rect.unit ![0, 6] ![256, 1] inb_S256x8_S256x1_0_6))) (k0_pay122 (k0_pay109 dg))
    (View.ld ids (Rect.unit ![0, 7] ![256, 1] inb_S256x8_S256x1_0_7)) X

variable (m : (ℓ : Loc nD τ sig) → Buf (Elt F) ℓ)

/-- The dequantised tile of grid point `t`. -/
abbrev xbAt (c : Dev nD) (t : Fin cfg0.N) : Vec F S256x7168 .bf16 := xb (iblk m c 0 t) (iblk m c 1 t)

/-- Grid point `t`'s logit gradients. -/
abbrev dlAt (c : Dev nD) (t : Fin cfg0.N) : Vec F S256x128 .f32 := dl (xbAt m c t) (iblk m c 2 t) (iblk m c 3 t) (iblk m c 4 t)

/-- Grid point `t`'s rows of `dx`. -/
abbrev dxAt (c : Dev nD) (t : Fin cfg0.N) : Vec F S256x7168 .bf16 := dx (xbAt m c t) (iblk m c 2 t) (iblk m c 3 t) (iblk m c 4 t)

/-- Grid point `t`'s contribution to the transposed `dw`. -/
abbrev partAt (c : Dev nD) (t : Fin cfg0.N) : Vec F S128x7168 .f32 := part (xbAt m c t) (iblk m c 2 t) (iblk m c 3 t) (iblk m c 4 t)

/-- After the first grid point, the block of `dx` holds the point's rows. -/
theorem dx_A (c : Dev nD) (t : Fin cfg0.N) (h0 : t.val % 6 = 0) (h1 : ¬1 ≤ t.val) (h2 : ¬t.val % 6 = 5) :
    (outsAt0 m c t.val t.isLt).1 = dxAt m c t := by
  rw [Gen.outsAt0_A m c t h0 h1 h2]
  frame_out
  rfl

/-- After the first grid point, the block of logit gradients holds the point's. -/
theorem dl_A (c : Dev nD) (t : Fin cfg0.N) (h0 : t.val % 6 = 0) (h1 : ¬1 ≤ t.val) (h2 : ¬t.val % 6 = 5) :
    (outsAt0 m c t.val t.isLt).2.2.1 = dlAt m c t := by
  rw [Gen.outsAt0_A m c t h0 h1 h2]
  frame_out
  rfl

/-- After the first grid point, the accumulator holds the point's contribution. -/
theorem acc_A (c : Dev nD) (t : Fin cfg0.N) (h0 : t.val % 6 = 0) (h1 : ¬1 ≤ t.val) (h2 : ¬t.val % 6 = 5) :
    (outsAt0 m c t.val t.isLt).2.2.2 = k0_pay1 (partAt m c t) := by
  rw [Gen.outsAt0_A m c t h0 h1 h2]
  frame_out
  rfl

/-- After a middle grid point, the block of `dx` holds the point's rows. -/
theorem dx_B (c : Dev nD) (t : Fin cfg0.N) (h0 : ¬t.val % 6 = 0) (h1 : 1 ≤ t.val) (h2 : ¬t.val % 6 = 5) :
    (outsAt0 m c t.val t.isLt).1 = dxAt m c t := by
  rw [Gen.outsAt0_B m c t h0 h1 h2]
  frame_out
  rfl

/-- After a middle grid point, the block of logit gradients holds the point's. -/
theorem dl_B (c : Dev nD) (t : Fin cfg0.N) (h0 : ¬t.val % 6 = 0) (h1 : 1 ≤ t.val) (h2 : ¬t.val % 6 = 5) :
    (outsAt0 m c t.val t.isLt).2.2.1 = dlAt m c t := by
  rw [Gen.outsAt0_B m c t h0 h1 h2]
  frame_out
  rfl

/-- After a middle grid point, the accumulator holds what the point before left plus the point's contribution. -/
theorem acc_B (c : Dev nD) (t : Fin cfg0.N) (h0 : ¬t.val % 6 = 0) (h1 : 1 ≤ t.val) (h2 : ¬t.val % 6 = 5) :
    (outsAt0 m c t.val t.isLt).2.2.2 = k0_pay2 (partAt m c t) (outsAt0 m c (t.val - 1) (lt_of_le_of_lt (Nat.sub_le _ _) t.isLt)).2.2.2 := by
  rw [Gen.outsAt0_B m c t h0 h1 h2]
  frame_out
  simp only [read_unread_whole]
  rfl

/-- After the last grid point, the block of `dx` holds the point's rows. -/
theorem dx_C (c : Dev nD) (t : Fin cfg0.N) (h0 : ¬t.val % 6 = 0) (h1 : 1 ≤ t.val) (h2 : t.val % 6 = 5) :
    (outsAt0 m c t.val t.isLt).1 = dxAt m c t := by
  rw [Gen.outsAt0_C m c t h0 h1 h2]
  frame_out
  rfl

/-- After the last grid point, the block of logit gradients holds the point's. -/
theorem dl_C (c : Dev nD) (t : Fin cfg0.N) (h0 : ¬t.val % 6 = 0) (h1 : 1 ≤ t.val) (h2 : t.val % 6 = 5) :
    (outsAt0 m c t.val t.isLt).2.2.1 = dlAt m c t := by
  rw [Gen.outsAt0_C m c t h0 h1 h2]
  frame_out
  rfl

/-- After the last grid point, the accumulator holds what the point before left plus the point's contribution. -/
theorem acc_C (c : Dev nD) (t : Fin cfg0.N) (h0 : ¬t.val % 6 = 0) (h1 : 1 ≤ t.val) (h2 : t.val % 6 = 5) :
    (outsAt0 m c t.val t.isLt).2.2.2 = k0_pay2 (partAt m c t) (outsAt0 m c (t.val - 1) (lt_of_le_of_lt (Nat.sub_le _ _) t.isLt)).2.2.2 := by
  rw [Gen.outsAt0_C m c t h0 h1 h2]
  frame_out
  simp only [read_unread_whole]
  rfl

/-- After the last grid point, the block of `dw` holds the accumulator transposed. -/
theorem dw_C (c : Dev nD) (t : Fin cfg0.N) (h0 : ¬t.val % 6 = 0) (h1 : 1 ≤ t.val) (h2 : t.val % 6 = 5) :
    (outsAt0 m c t.val t.isLt).2.1 = k0_pay3 (k0_pay2 (partAt m c t) (outsAt0 m c (t.val - 1) (lt_of_le_of_lt (Nat.sub_le _ _) t.isLt)).2.2.2) := by
  rw [Gen.outsAt0_C m c t h0 h1 h2]
  frame_out
  simp only [read_unread_whole]
  rfl

end Cert.KernelIdeal.Tile

end
-- ==== Proof.Chunk.lean ====
/-
  One of the 56 chunks of a tile. Chunk `c` of the dequantised tile is made of the codes of its 128 columns and of four lanes of the scales: column `l` of
  the chunk takes the scale of lane `4 c + l / 32`. This module names the operations once, for a chunk whose first scale lane is a parameter, and reads the
  result at one place.
-/
module

public import proofs.«01_k».proof.Proof.Gen.KernelIdeal.Value
public import Idealize.ShloMosaic.Lib.Pointwise
public import Idealize.ShloMosaic.Lib.ValueIdx
public import Idealize.ShloMosaic.Lib.Pipeline.ValueKit
public import Idealize.ShloMosaic.Lib.Pipeline.ReadBack

@[expose] public section

set_option maxRecDepth 16384

noncomputable section

namespace Cert.KernelIdeal.Tile

open Cert.KernelIdeal Cert.KernelIdeal.Gen Idealize.ShloMosaic Idealize.ShloMosaic.TcCoe Idealize.SL.Sem

/-- What is stored for one chunk: the codes `x` times the lanes of `src` that the words `lane` plus the word `k` name. -/
def chunk {F : FTy → Type} [FloatOps F] (k : BitVec 32) (src : FVec F S256x128 .f32) (lane : IVec S256x128 32) (x : Vec F S256x128 .fp8e4m3) :
    FVec F S256x128 .bf16 :=
  let i : IVec S256x128 32 := addi lane (broadcast S256x128 k)
  let j : IVec S256x128 32 := select (cmpi .slt i (broadcast S256x128 0#32)) (addi i (broadcast S256x128 128#32)) i
  shapeCast S256x128 (mulf (extf .bf16 (shapeCast S256x128 x shapeCasts_S256x128_S256x128) bitsLt_fp8e4m3_bf16)
    (truncf .bf16 (dynamicGather 1 src (shapeCast S256x128 (shapeCast S256x128x1 j shapeCasts_S256x128_S256x128x1) shapeCasts_S256x128x1_S256x128)) bitsLt_bf16_f32))
    shapeCasts_S256x128_S256x128

/-- The first 128 scale lanes, from which the first 32 chunks take theirs. -/
def lo {F : FTy → Type} [FloatOps F] (s : FVec F S256x224 .f32) : FVec F S256x128 .f32 :=
  extractStridedSlice S256x128 ![0, 0] s slices_S256x224_o0_0_S256x128

/-- The last 96 scale lanes and 32 lanes of zeros, from which the other chunks take theirs. -/
def hi {F : FTy → Type} [FloatOps F] (s : FVec F S256x224 .f32) : FVec F S256x128 .f32 :=
  concatenate S256x128 1 [⟨S256x96, extractStridedSlice S256x96 ![0, 128] s slices_S256x224_o0_128_S256x96⟩,
    ⟨S256x32, broadcast S256x32 (Scalar.sitofp .f32 0#32)⟩] concatenates_S256x96_S256x32_S256x128_d1

/-- The lane word of column `l` is `l / 32`. -/
theorem lane_apply (x : S256x128.Idx) : k0_pay4 x = BitVec.ofNat 32 ((x 1).val / 32) := by
  pointwise [k0_pay4]
  generalize x 1 = l
  revert l
  decide +kernel

/-- Adding a small number `k` to a quarter's number `q`, with the printed correction for negative indices, names lane `q + k`. -/
theorem lane_add : ∀ (q : Fin 4) (k : Fin 125),
    (Scalar.select (IntOp.cmpi CmpIPredicate.slt (IntOp.addi (BitVec.ofNat 32 q.val) (BitVec.ofNat 32 k.val)) 0#32)
      (IntOp.addi (IntOp.addi (BitVec.ofNat 32 q.val) (BitVec.ofNat 32 k.val)) 128#32)
      (IntOp.addi (BitVec.ofNat 32 q.val) (BitVec.ofNat 32 k.val))).toNat % 128 = q.val + k.val := by
  decide +kernel

/-- Two places with the same coordinates are the same. -/
theorem ix2_congr {m n : ℕ} {a a' : Fin m} {b b' : Fin n} (ha : a = a') (hb : b = b') : ix2 a b = ix2 a' b' := by rw [ha, hb]

/-- One entry of a chunk: the code times the source lane `x 1 / 32 + k`. -/
theorem chunk_apply (k : ℕ) (hk : k < 125) (src : FVec Ideal S256x128 .f32) (y : Vec Ideal S256x128 .fp8e4m3) (x : S256x128.Idx)
    (h : (x 1).val / 32 + k < 128) :
    chunk (BitVec.ofNat 32 k) src k0_pay4 y x = (y x * src (ix2 (x 0) ⟨(x 1).val / 32 + k, h⟩) : EReal) := by
  have hx : (x 1).val < 128 := (x 1).isLt
  pointwise [chunk]
  refine congrArg (fun v => (y x * src v : EReal)) (ix2_congr rfl (Fin.ext ?_))
  dsimp only
  simp only [lane_apply]
  exact lane_add ⟨(x 1).val / 32, by omega⟩ ⟨k, hk⟩

/-- The dequantised tile: entry `(t, d)` is the code times the scale of block `d / 32` of the row. -/
def XB (x0 : Vec Ideal S256x7168 .fp8e4m3) (x1 : Vec Ideal S256x224 .f32) : Vec Ideal S256x7168 .bf16 :=
  fun y => (x0 y * x1 (ix2 (y 0) ⟨(y 1).val / 32, by have h : (y 1).val < 7168 := (y 1).isLt; show (y 1).val / 32 < 224; omega⟩) : EReal)

/-- A chunk whose scales come from the first 128 lanes stores its part of the dequantised tile. -/
theorem chunk_lo (x0 : Vec Ideal S256x7168 .fp8e4m3) (x1 : Vec Ideal S256x224 .f32) (k col : ℕ) (hk : k < 125) (hc : col = 32 * k)
    (inb : ∀ a, (![0, col] : Fin 2 → ℕ) a + (![256, 128] : Fin 2 → ℕ) a ≤ S256x7168.size a) (x : S256x128.Idx) :
    chunk (BitVec.ofNat 32 k) (lo (k0_pay5 (F := Ideal) x1)) k0_pay4 (View.ld x0 (Rect.unit (s := S256x7168) ![0, col] ![256, 128] inb)) x =
      XB x0 x1 ((Rect.unit (s := S256x7168) ![0, col] ![256, 128] inb).emb x) := by
  have hx : (x 1).val < 128 := (x 1).isLt
  rw [chunk_apply k hk _ _ x (by omega)]
  have h0 := ValueKit.rect_emb_unit_val (s := S256x7168) ![0, col] ![256, 128] inb x 0
  have h1 := ValueKit.rect_emb_unit_val (s := S256x7168) ![0, col] ![256, 128] inb x 1
  have e0 : (![0, col] : Fin 2 → ℕ) 0 = 0 := rfl
  have e1 : (![0, col] : Fin 2 → ℕ) 1 = col := rfl
  unfold XB
  congr 1
  pointwise [lo, k0_pay5]
  congr 1
  refine ix2_congr ?_ ?_
  · apply Fin.ext; rw [h0]; omega
  · apply Fin.ext; show (x 1).val / 32 + k = ((Rect.unit (s := S256x7168) ![0, col] ![256, 128] inb).emb x 1).val / 32; rw [h1]; omega

/-- A chunk whose scales come from the last 96 lanes stores its part of the dequantised tile. -/
theorem chunk_hi (x0 : Vec Ideal S256x7168 .fp8e4m3) (x1 : Vec Ideal S256x224 .f32) (k col : ℕ) (hk : k < 93) (hc : col = 32 * (k + 128))
    (inb : ∀ a, (![0, col] : Fin 2 → ℕ) a + (![256, 128] : Fin 2 → ℕ) a ≤ S256x7168.size a) (x : S256x128.Idx) :
    chunk (BitVec.ofNat 32 k) (hi (k0_pay5 (F := Ideal) x1)) k0_pay4 (View.ld x0 (Rect.unit (s := S256x7168) ![0, col] ![256, 128] inb)) x =
      XB x0 x1 ((Rect.unit (s := S256x7168) ![0, col] ![256, 128] inb).emb x) := by
  have hx : (x 1).val < 128 := (x 1).isLt
  rw [chunk_apply k (by omega) _ _ x (by omega)]
  have h0 := ValueKit.rect_emb_unit_val (s := S256x7168) ![0, col] ![256, 128] inb x 0
  have h1 := ValueKit.rect_emb_unit_val (s := S256x7168) ![0, col] ![256, 128] inb x 1
  have e0 : (![0, col] : Fin 2 → ℕ) 0 = 0 := rfl
  have e1 : (![0, col] : Fin 2 → ℕ) 1 = col := rfl
  unfold XB
  congr 1
  pointwise [hi, k0_pay5]
  rw [dif_pos (by omega)]
  congr 1
  refine ix2_congr ?_ ?_
  · apply Fin.ext; rw [h0]; omega
  · apply Fin.ext; show 128 + ((x 1).val / 32 + k) = ((Rect.unit (s := S256x7168) ![0, col] ![256, 128] inb).emb x 1).val / 32; rw [h1]; omega

end Cert.KernelIdeal.Tile

end
-- ==== Proof.TileValue.lean ====
/-
  The scratch after its 56 stores holds the dequantised tile: each store is a chunk of it, and the chunks cover the scratch.
-/
module

public import proofs.«01_k».proof.Proof.Tile
public import proofs.«01_k».proof.Proof.Chunk

@[expose] public section

set_option maxRecDepth 16384

noncomputable section

namespace Cert.KernelIdeal.Tile

open Cert.KernelIdeal Cert.KernelIdeal.Gen Idealize.ShloMosaic Idealize.ShloMosaic.TcCoe Idealize.SL.Sem

/-- Every one of the 56 stores stores its part of the dequantised tile. -/
theorem pieces_of (x0 : Vec Ideal S256x7168 .fp8e4m3) (x1 : Vec Ideal S256x224 .f32) : View.PiecesOf (XB x0 x1) (pieces x0 x1) :=
  ⟨fun x => chunk_hi x0 x1 92 7040 (by omega) rfl _ x,
   fun x => chunk_hi x0 x1 88 6912 (by omega) rfl _ x,
   fun x => chunk_hi x0 x1 84 6784 (by omega) rfl _ x,
   fun x => chunk_hi x0 x1 80 6656 (by omega) rfl _ x,
   fun x => chunk_hi x0 x1 76 6528 (by omega) rfl _ x,
   fun x => chunk_hi x0 x1 72 6400 (by omega) rfl _ x,
   fun x => chunk_hi x0 x1 68 6272 (by omega) rfl _ x,
   fun x => chunk_hi x0 x1 64 6144 (by omega) rfl _ x,
   fun x => chunk_hi x0 x1 60 6016 (by omega) rfl _ x,
   fun x => chunk_hi x0 x1 56 5888 (by omega) rfl _ x,
   fun x => chunk_hi x0 x1 52 5760 (by omega) rfl _ x,
   fun x => chunk_hi x0 x1 48 5632 (by omega) rfl _ x,
   fun x => chunk_hi x0 x1 44 5504 (by omega) rfl _ x,
   fun x => chunk_hi x0 x1 40 5376 (by omega) rfl _ x,
   fun x => chunk_hi x0 x1 36 5248 (by omega) rfl _ x,
   fun x => chunk_hi x0 x1 32 5120 (by omega) rfl _ x,
   fun x => chunk_hi x0 x1 28 4992 (by omega) rfl _ x,
   fun x => chunk_hi x0 x1 24 4864 (by omega) rfl _ x,
   fun x => chunk_hi x0 x1 20 4736 (by omega) rfl _ x,
   fun x => chunk_hi x0 x1 16 4608 (by omega) rfl _ x,
   fun x => chunk_hi x0 x1 12 4480 (by omega) rfl _ x,
   fun x => chunk_hi x0 x1 8 4352 (by omega) rfl _ x,
   fun x => chunk_hi x0 x1 4 4224 (by omega) rfl _ x,
   fun x => chunk_hi x0 x1 0 4096 (by omega) rfl _ x,
   fun x => chunk_lo x0 x1 124 3968 (by omega) rfl _ x,
   fun x => chunk_lo x0 x1 120 3840 (by omega) rfl _ x,
   fun x => chunk_lo x0 x1 116 3712 (by omega) rfl _ x,
   fun x => chunk_lo x0 x1 112 3584 (by omega) rfl _ x,
   fun x => chunk_lo x0 x1 108 3456 (by omega) rfl _ x,
   fun x => chunk_lo x0 x1 104 3328 (by omega) rfl _ x,
   fun x => chunk_lo x0 x1 100 3200 (by omega) rfl _ x,
   fun x => chunk_lo x0 x1 96 3072 (by omega) rfl _ x,
   fun x => chunk_lo x0 x1 92 2944 (by omega) rfl _ x,
   fun x => chunk_lo x0 x1 88 2816 (by omega) rfl _ x,
   fun x => chunk_lo x0 x1 84 2688 (by omega) rfl _ x,
   fun x => chunk_lo x0 x1 80 2560 (by omega) rfl _ x,
   fun x => chunk_lo x0 x1 76 2432 (by omega) rfl _ x,
   fun x => chunk_lo x0 x1 72 2304 (by omega) rfl _ x,
   fun x => chunk_lo x0 x1 68 2176 (by omega) rfl _ x,
   fun x => chunk_lo x0 x1 64 2048 (by omega) rfl _ x,
   fun x => chunk_lo x0 x1 60 1920 (by omega) rfl _ x,
   fun x => chunk_lo x0 x1 56 1792 (by omega) rfl _ x,
   fun x => chunk_lo x0 x1 52 1664 (by omega) rfl _ x,
   fun x => chunk_lo x0 x1 48 1536 (by omega) rfl _ x,
   fun x => chunk_lo x0 x1 44 1408 (by omega) rfl _ x,
   fun x => chunk_lo x0 x1 40 1280 (by omega) rfl _ x,
   fun x => chunk_lo x0 x1 36 1152 (by omega) rfl _ x,
   fun x => chunk_lo x0 x1 32 1024 (by omega) rfl _ x,
   fun x => chunk_lo x0 x1 28 896 (by omega) rfl _ x,
   fun x => chunk_lo x0 x1 24 768 (by omega) rfl _ x,
   fun x => chunk_lo x0 x1 20 640 (by omega) rfl _ x,
   fun x => chunk_lo x0 x1 16 512 (by omega) rfl _ x,
   fun x => chunk_lo x0 x1 12 384 (by omega) rfl _ x,
   fun x => chunk_lo x0 x1 8 256 (by omega) rfl _ x,
   fun x => chunk_lo x0 x1 4 128 (by omega) rfl _ x,
   fun x => chunk_lo x0 x1 0 0 (by omega) rfl _ x,
   trivial⟩

/-- The stores cover the scratch. -/
theorem pieces_cover (x0 : Vec Ideal S256x7168 .fp8e4m3) (x1 : Vec Ideal S256x224 .f32) (y : S256x7168.Idx) : ∃ p ∈ pieces x0 x1, y ∈ p.1.set :=
  View.cover_of_tiledL (pieces x0 x1) ![256, 128] (by sl_kernel_rfl) y

/-- Loading the whole scratch back after stores that are parts of one array and cover it gives that array. -/
theorem load_whole (G : S256x7168.Idx → Elt Ideal .bf16) (L : List (View.Piece (Elt Ideal) S256x7168 .bf16)) (hL : View.PiecesOf G L)
    (hc : ∀ y : S256x7168.Idx, ∃ p ∈ L, y ∈ p.1.set) :
    (View.whole cc0_scratch0).readCov L (Rect.unit (s := S256x7168) ![0, 0] ![256, 7168] inb_S256x7168_S256x7168_0_0).toLoadRect = G := by
  funext y
  refine (congrFun (View.readCov_eq_canon' (View.whole cc0_scratch0) L _) y).trans ?_
  refine (View.canon_apply_of_pieces G L hL.mem _ (hc _)).trans ?_
  refine congrArg G (funext fun a => Fin.ext ?_)
  refine (ValueKit.rect_emb_unit_val (s := S256x7168) ![0, 0] ![256, 7168] inb_S256x7168_S256x7168_0_0 y a).trans ?_
  fin_cases a <;> exact Nat.zero_add _

/-- What the body loads back is the dequantised tile. -/
theorem xb_eq (x0 : Vec Ideal S256x7168 .fp8e4m3) (x1 : Vec Ideal S256x224 .f32) : xb x0 x1 = XB x0 x1 :=
  load_whole (XB x0 x1) (pieces x0 x1) (pieces_of x0 x1) (pieces_cover x0 x1)

end Cert.KernelIdeal.Tile

end
-- ==== Proof.Algebra.lean ====
/-
  The mathematics of one row, with no program in it. A row has 128 logits, eight slots, and each slot names one of the lanes. One side runs the softmax and
  its backward over the eight chosen logits and then adds every slot's gradient into its lane. The other stays on all 128 lanes, with minus infinity and zero
  in the lanes no slot names. When the eight lanes are distinct, the two agree, whatever the logits and the gate gradients are.
-/
module

public import Idealize.ShloMosaic.PureOps.Ideal.Laws

@[expose] public section

noncomputable section

namespace Cert.Row

open Idealize.ShloMosaic

/-- The greatest of `n` numbers. -/
def top {n : ℕ} (l : Fin n → EReal) : EReal := Finset.fold max ⊥ l Finset.univ

/-- The exponentials less the maximum. -/
def ex {n : ℕ} (l : Fin n → EReal) (i : Fin n) : EReal := Ideal.exp (l i - top l)

/-- The softmax. -/
def soft {n : ℕ} (l : Fin n → EReal) (i : Fin n) : EReal := Ideal.div (ex l i) (∑ j, ex l j)

/-- The softmax's backward: `g i (d i - Σ g d)`. -/
def back {n : ℕ} (l d : Fin n → EReal) (i : Fin n) : EReal := soft l i * (d i - ∑ j, soft l j * d j)

section Masked

variable {n m : ℕ} (ι : Fin n → Fin m) (hι : Function.Injective ι)

/-- Logits that are minus infinity off the chosen lanes have the maximum of the chosen ones. -/
theorem top_masked (l : Fin n → EReal) (L : Fin m → EReal) (h : ∀ j, L (ι j) = l j) (h0 : ∀ e, e ∉ Set.range ι → L e = ⊥) : top L = top l := by
  have hL : top L = Finset.univ.sup L := rfl
  have hl : top l = Finset.univ.sup l := rfl
  rw [hL, hl]
  apply le_antisymm
  · refine Finset.sup_le fun e _ => ?_
    by_cases he : e ∈ Set.range ι
    · obtain ⟨j, rfl⟩ := he
      rw [h j]
      exact Finset.le_sup (Finset.mem_univ j)
    · rw [h0 e he]
      exact bot_le
  · refine Finset.sup_le fun j _ => ?_
    rw [← h j]
    exact Finset.le_sup (Finset.mem_univ (ι j))

/-- Minus infinity less anything has exponential zero. -/
theorem exp_bot_sub (x : EReal) : Ideal.exp (⊥ - x) = 0 := by
  rw [EReal.bot_sub]
  rfl

include hι

/-- The exponentials in the chosen lanes are those of the chosen logits, and zero elsewhere; so is their sum. -/
theorem sum_ex_masked (l : Fin n → EReal) (L : Fin m → EReal) (h : ∀ j, L (ι j) = l j) (h0 : ∀ e, e ∉ Set.range ι → L e = ⊥) :
    ∑ e, ex L e = ∑ j, ex l j := by
  symm
  refine Fintype.sum_of_injective ι hι _ _ (fun e he => ?_) (fun j => ?_)
  · unfold ex; rw [h0 e he, exp_bot_sub]
  · unfold ex; rw [h j, top_masked ι l L h h0]

/-- The softmax in a chosen lane is the softmax of the chosen logits. -/
theorem soft_masked (l : Fin n → EReal) (L : Fin m → EReal) (h : ∀ j, L (ι j) = l j) (h0 : ∀ e, e ∉ Set.range ι → L e = ⊥) (j : Fin n) :
    soft L (ι j) = soft l j := by
  unfold soft
  rw [sum_ex_masked ι hι l L h h0]
  unfold ex
  rw [h j, top_masked ι l L h h0]

/-- The softmax's backward in a chosen lane is the one over the chosen logits, when the gate gradients are zero in the other lanes. -/
theorem back_masked (l d : Fin n → EReal) (L D : Fin m → EReal) (h : ∀ j, L (ι j) = l j) (h0 : ∀ e, e ∉ Set.range ι → L e = ⊥)
    (hd : ∀ j, D (ι j) = d j) (hd0 : ∀ e, e ∉ Set.range ι → D e = 0) (j : Fin n) : back L D (ι j) = back l d j := by
  unfold back
  rw [soft_masked ι hι l L h h0, hd j]
  congr 2
  symm
  refine Fintype.sum_of_injective ι hι _ _ (fun e he => ?_) (fun k => ?_)
  · rw [hd0 e he, mul_zero]
  · rw [soft_masked ι hι l L h h0, hd k]

/-- Adding every slot's value into its lane: a chosen lane holds its slot's value. -/
theorem scatter_chosen (v : Fin n → EReal) (j : Fin n) : (∑ k, if ι k = ι j then v k else 0) = v j := by
  rw [Finset.sum_eq_single j]
  · rw [if_pos rfl]
  · intro k _ hk
    rw [if_neg fun e => hk (hι e)]
  · intro hj
    exact absurd (Finset.mem_univ j) hj

end Masked

/-- The logit of the lane that a slot's word names: the sum over the lanes of the logits where the word is the lane's number. -/
def pick (lg : Fin 128 → EReal) (ids : Fin 8 → BitVec 32) (j : Fin 8) : EReal := ∑ e : Fin 128, if ids j = BitVec.ofNat 32 e.val then lg e else 0

/-- A row's logit gradients, computed over the slots: the softmax's backward over the picked logits, every slot's value added into its lane. -/
def slots (lg : Fin 128 → EReal) (ids : Fin 8 → BitVec 32) (dg : Fin 8 → EReal) (e : Fin 128) : EReal :=
  ∑ j : Fin 8, if ids j = BitVec.ofNat 32 e.val then back (pick lg ids) dg j else 0

/-- A lane's gate gradient: that of the last slot which names the lane, zero if none does. -/
def gate (ids : Fin 8 → BitVec 32) (dg : Fin 8 → EReal) (e : Fin 128) : EReal :=
  if ids 7 = BitVec.ofNat 32 e.val then dg 7 else if ids 6 = BitVec.ofNat 32 e.val then dg 6 else if ids 5 = BitVec.ofNat 32 e.val then dg 5 else
  if ids 4 = BitVec.ofNat 32 e.val then dg 4 else if ids 3 = BitVec.ofNat 32 e.val then dg 3 else if ids 2 = BitVec.ofNat 32 e.val then dg 2 else
  if ids 1 = BitVec.ofNat 32 e.val then dg 1 else if ids 0 = BitVec.ofNat 32 e.val then dg 0 else 0

/-- A row's logit gradients, computed over the lanes: the softmax's backward over logits that are minus infinity where no slot names the lane. -/
def lanes (lg : Fin 128 → EReal) (ids : Fin 8 → BitVec 32) (dg : Fin 8 → EReal) (e : Fin 128) : EReal :=
  if ∃ j, ids j = BitVec.ofNat 32 e.val then back (fun e => if ∃ j, ids j = BitVec.ofNat 32 e.val then lg e else ⊥) (gate ids dg) e else 0

/-- The words of one row name eight distinct lanes. -/
structure Distinct (ids : Fin 8 → BitVec 32) : Prop where
  lt : ∀ j, (ids j).toNat < 128
  inj : Function.Injective ids

section Distinct

variable {ids : Fin 8 → BitVec 32} (h : Distinct ids)

/-- The lane a slot names. -/
def Distinct.lane (h : Distinct ids) (j : Fin 8) : Fin 128 := ⟨(ids j).toNat, h.lt j⟩

/-- A slot's word is a lane's number exactly if it names that lane. -/
theorem Distinct.eq_iff (j : Fin 8) (e : Fin 128) : ids j = BitVec.ofNat 32 e.val ↔ h.lane j = e := by
  have he := e.isLt
  constructor
  · intro hj
    apply Fin.ext
    show (ids j).toNat = e.val
    rw [hj, BitVec.toNat_ofNat]
    omega
  · rintro rfl
    apply BitVec.eq_of_toNat_eq
    have hl := h.lt j
    rw [BitVec.toNat_ofNat]
    show (ids j).toNat = (ids j).toNat % 2 ^ 32
    omega

/-- Distinct words name distinct lanes. -/
theorem Distinct.lane_inj : Function.Injective h.lane := by
  intro a b hab
  apply h.inj
  apply BitVec.eq_of_toNat_eq
  exact (Fin.ext_iff.mp hab : (h.lane a).val = (h.lane b).val)

/-- The picked logit is the named lane's. -/
theorem Distinct.pick_eq (lg : Fin 128 → EReal) (j : Fin 8) : pick lg ids j = lg (h.lane j) := by
  unfold pick
  simp only [h.eq_iff]
  rw [Finset.sum_ite_eq Finset.univ (h.lane j) lg, if_pos (Finset.mem_univ _)]

/-- The gate gradient of a named lane is its slot's. -/
theorem Distinct.gate_lane (dg : Fin 8 → EReal) (j : Fin 8) : gate ids dg (h.lane j) = dg j := by
  unfold gate
  simp only [h.eq_iff, h.lane_inj.eq_iff]
  fin_cases j <;> simp

/-- The gate gradient of a lane that no slot names is zero. -/
theorem Distinct.gate_other (dg : Fin 8 → EReal) (e : Fin 128) (he : e ∉ Set.range h.lane) : gate ids dg e = 0 := by
  have hne : ∀ j, ¬ h.lane j = e := fun j hj => he ⟨j, hj⟩
  unfold gate
  simp only [h.eq_iff, hne, if_false]

include h in
/-- **The row equation**: with eight distinct lanes named, computing over the lanes and computing over the slots give the same logit gradients. -/
theorem Distinct.lanes_eq_slots (lg : Fin 128 → EReal) (dg : Fin 8 → EReal) (e : Fin 128) : lanes lg ids dg e = slots lg ids dg e := by
  unfold lanes slots
  simp only [h.eq_iff]
  by_cases he : e ∈ Set.range h.lane
  · obtain ⟨j, rfl⟩ := he
    rw [if_pos ⟨j, rfl⟩, scatter_chosen h.lane h.lane_inj]
    refine back_masked h.lane h.lane_inj _ _ _ _ (fun k => ?_) (fun e he => ?_) (h.gate_lane dg) (h.gate_other dg) j
    · rw [if_pos ⟨k, rfl⟩, h.pick_eq]
    · exact if_neg he
  · rw [if_neg (show ¬∃ j, h.lane j = e from he)]
    symm
    refine Finset.sum_eq_zero fun j _ => if_neg fun hj => he ⟨j, hj⟩

end Distinct

end Cert.Row

end
-- ==== Proof.Words.lean ====
/-
  Words: comparisons read as equalities, and the float words of zero and minus infinity.
-/
module

public import Idealize.ShloMosaic.PureOps.Ideal.Laws
public import Idealize.ShloMosaic.Lib.WordCmp

@[expose] public section

noncomputable section

namespace Cert.Words

open Idealize.ShloMosaic

/-- A word comparison is the equality. -/
theorem cmpi_word (a b : BitVec 32) : IntOp.cmpi .eq a b = BitVec.ofBool (decide (a = b)) := by
  show BitVec.ofBool (a == b) = _
  rw [beq_eq_decide]

/-- A choice by a word comparison is a choice by the equality. -/
theorem select_eq {α : Type} (a b : BitVec 32) (x y : α) : Scalar.select (IntOp.cmpi .eq a b) x y = if a = b then x else y := by
  rw [cmpi_word]
  by_cases h : a = b <;> simp [Scalar.select, h]

/-- An alternative by a word comparison. -/
theorem ori_eq (k : BitVec 1) (a b : BitVec 32) : IntOp.ori k (IntOp.cmpi .eq a b) = 1#1 ↔ k = 1#1 ∨ a = b := by
  rw [cmpi_word]
  by_cases h : a = b <;> revert k <;> simp [IntOp.ori, h] <;> decide

/-- The word of minus infinity. -/
theorem negInf : Ideal.ofBits .f32 0xFF800000#32 = ⊥ := by simp [Ideal.ofBits, Ideal.ieee]

/-- The word of zero. -/
theorem zero : Ideal.ofBits .f32 0x00000000#32 = 0 := by simp [Ideal.ofBits, Ideal.ieee]

end Cert.Words

end
-- ==== Proof.Block.lean ====
/-
  The logit gradients of one tile, in two steps. First the two things the body builds from the expert ids, lane by lane: which lanes are chosen by any of the
  eight slots, and the gate gradient of the slot that chose a lane. Then the softmax backward over the chosen lanes.
-/
module

public import proofs.«01_k».proof.Proof.TileValue
public import proofs.«01_k».proof.Proof.Algebra
public import proofs.«01_k».proof.Proof.Words
public import Idealize.ShloMosaic.Lib.Pointwise
public import Idealize.ShloMosaic.Lib.WordCmp

@[expose] public section

set_option maxRecDepth 16384

noncomputable section

namespace Cert.KernelIdeal.Tile

open Cert.KernelIdeal Cert.KernelIdeal.Gen Cert.Words Idealize.ShloMosaic Idealize.ShloMosaic.TcCoe Idealize.SL.Sem

section General

variable {F : FTy → Type} [FloatOps F]

/-- The lanes that slot 0 chooses. -/
def hit0 (ids : Vec F S256x8 .i32) : IVec S256x128 1 :=
  cmpi .eq (broadcastTo S256x128 (shapeCast S256x1 (View.ld ids (Rect.unit (s := S256x8) ![0, 0] ![256, 1] inb_S256x8_S256x1_0_0)) shapeCasts_S256x1_S256x1) broadcasts_S256x1_S256x128)
    (iota .tc S256x128 32 [1] iota_S256x128_d1_w32)

/-- Slot 0's gate gradient, in every lane. -/
def slot0 (dg : Vec F S256x8 .bf16) : FVec F S256x128 .f32 :=
  broadcastTo S256x128 (shapeCast S256x1 (extractStridedSlice S256x1 ![0, 0] (k0_pay109 dg) slices_S256x8_o0_0_S256x1) shapeCasts_S256x1_S256x1) broadcasts_S256x1_S256x128

/-- The lanes that slot 1 chooses. -/
def hit1 (ids : Vec F S256x8 .i32) : IVec S256x128 1 :=
  cmpi .eq (broadcastTo S256x128 (shapeCast S256x1 (View.ld ids (Rect.unit (s := S256x8) ![0, 1] ![256, 1] inb_S256x8_S256x1_0_1)) shapeCasts_S256x1_S256x1) broadcasts_S256x1_S256x128)
    (iota .tc S256x128 32 [1] iota_S256x128_d1_w32)

/-- Slot 1's gate gradient, in every lane. -/
def slot1 (dg : Vec F S256x8 .bf16) : FVec F S256x128 .f32 :=
  broadcastTo S256x128 (shapeCast S256x1 (extractStridedSlice S256x1 ![0, 1] (k0_pay109 dg) slices_S256x8_o0_1_S256x1) shapeCasts_S256x1_S256x1) broadcasts_S256x1_S256x128

/-- The lanes that slot 2 chooses. -/
def hit2 (ids : Vec F S256x8 .i32) : IVec S256x128 1 :=
  cmpi .eq (broadcastTo S256x128 (shapeCast S256x1 (View.ld ids (Rect.unit (s := S256x8) ![0, 2] ![256, 1] inb_S256x8_S256x1_0_2)) shapeCasts_S256x1_S256x1) broadcasts_S256x1_S256x128)
    (iota .tc S256x128 32 [1] iota_S256x128_d1_w32)

/-- Slot 2's gate gradient, in every lane. -/
def slot2 (dg : Vec F S256x8 .bf16) : FVec F S256x128 .f32 :=
  broadcastTo S256x128 (shapeCast S256x1 (extractStridedSlice S256x1 ![0, 2] (k0_pay109 dg) slices_S256x8_o0_2_S256x1) shapeCasts_S256x1_S256x1) broadcasts_S256x1_S256x128

/-- The lanes that slot 3 chooses. -/
def hit3 (ids : Vec F S256x8 .i32) : IVec S256x128 1 :=
  cmpi .eq (broadcastTo S256x128 (shapeCast S256x1 (View.ld ids (Rect.unit (s := S256x8) ![0, 3] ![256, 1] inb_S256x8_S256x1_0_3)) shapeCasts_S256x1_S256x1) broadcasts_S256x1_S256x128)
    (iota .tc S256x128 32 [1] iota_S256x128_d1_w32)

/-- Slot 3's gate gradient, in every lane. -/
def slot3 (dg : Vec F S256x8 .bf16) : FVec F S256x128 .f32 :=
  broadcastTo S256x128 (shapeCast S256x1 (extractStridedSlice S256x1 ![0, 3] (k0_pay109 dg) slices_S256x8_o0_3_S256x1) shapeCasts_S256x1_S256x1) broadcasts_S256x1_S256x128

/-- The lanes that slot 4 chooses. -/
def hit4 (ids : Vec F S256x8 .i32) : IVec S256x128 1 :=
  cmpi .eq (broadcastTo S256x128 (shapeCast S256x1 (View.ld ids (Rect.unit (s := S256x8) ![0, 4] ![256, 1] inb_S256x8_S256x1_0_4)) shapeCasts_S256x1_S256x1) broadcasts_S256x1_S256x128)
    (iota .tc S256x128 32 [1] iota_S256x128_d1_w32)

/-- Slot 4's gate gradient, in every lane. -/
def slot4 (dg : Vec F S256x8 .bf16) : FVec F S256x128 .f32 :=
  broadcastTo S256x128 (shapeCast S256x1 (extractStridedSlice S256x1 ![0, 4] (k0_pay109 dg) slices_S256x8_o0_4_S256x1) shapeCasts_S256x1_S256x1) broadcasts_S256x1_S256x128

/-- The lanes that slot 5 chooses. -/
def hit5 (ids : Vec F S256x8 .i32) : IVec S256x128 1 :=
  cmpi .eq (broadcastTo S256x128 (shapeCast S256x1 (View.ld ids (Rect.unit (s := S256x8) ![0, 5] ![256, 1] inb_S256x8_S256x1_0_5)) shapeCasts_S256x1_S256x1) broadcasts_S256x1_S256x128)
    (iota .tc S256x128 32 [1] iota_S256x128_d1_w32)

/-- Slot 5's gate gradient, in every lane. -/
def slot5 (dg : Vec F S256x8 .bf16) : FVec F S256x128 .f32 :=
  broadcastTo S256x128 (shapeCast S256x1 (extractStridedSlice S256x1 ![0, 5] (k0_pay109 dg) slices_S256x8_o0_5_S256x1) shapeCasts_S256x1_S256x1) broadcasts_S256x1_S256x128

/-- The lanes that slot 6 chooses. -/
def hit6 (ids : Vec F S256x8 .i32) : IVec S256x128 1 :=
  cmpi .eq (broadcastTo S256x128 (shapeCast S256x1 (View.ld ids (Rect.unit (s := S256x8) ![0, 6] ![256, 1] inb_S256x8_S256x1_0_6)) shapeCasts_S256x1_S256x1) broadcasts_S256x1_S256x128)
    (iota .tc S256x128 32 [1] iota_S256x128_d1_w32)

/-- Slot 6's gate gradient, in every lane. -/
def slot6 (dg : Vec F S256x8 .bf16) : FVec F S256x128 .f32 :=
  broadcastTo S256x128 (shapeCast S256x1 (extractStridedSlice S256x1 ![0, 6] (k0_pay109 dg) slices_S256x8_o0_6_S256x1) shapeCasts_S256x1_S256x1) broadcasts_S256x1_S256x128

/-- The lanes that slot 7 chooses. -/
def hit7 (ids : Vec F S256x8 .i32) : IVec S256x128 1 :=
  cmpi .eq (broadcastTo S256x128 (shapeCast S256x1 (View.ld ids (Rect.unit (s := S256x8) ![0, 7] ![256, 1] inb_S256x8_S256x1_0_7)) shapeCasts_S256x1_S256x1) broadcasts_S256x1_S256x128)
    (iota .tc S256x128 32 [1] iota_S256x128_d1_w32)

/-- Slot 7's gate gradient, in every lane. -/
def slot7 (dg : Vec F S256x8 .bf16) : FVec F S256x128 .f32 :=
  broadcastTo S256x128 (shapeCast S256x1 (extractStridedSlice S256x1 ![0, 7] (k0_pay109 dg) slices_S256x8_o0_7_S256x1) shapeCasts_S256x1_S256x1) broadcasts_S256x1_S256x128

/-- The lanes that any slot chooses. -/
def mask (ids : Vec F S256x8 .i32) : IVec S256x128 1 :=
  ori (ori (ori (ori (ori (ori (ori (ori (broadcast S256x128 0#1) (hit0 ids)) (hit1 ids)) (hit2 ids)) (hit3 ids)) (hit4 ids)) (hit5 ids)) (hit6 ids)) (hit7 ids)

/-- In a chosen lane the gate gradient of the last slot that chooses it, zero elsewhere. -/
def dgd (ids : Vec F S256x8 .i32) (dg : Vec F S256x8 .bf16) : FVec F S256x128 .f32 :=
  select (hit7 ids) (slot7 dg) (select (hit6 ids) (slot6 dg) (select (hit5 ids) (slot5 dg) (select (hit4 ids) (slot4 dg) (select (hit3 ids) (slot3 dg) (select (hit2 ids) (slot2 dg) (select (hit1 ids) (slot1 dg) (select (hit0 ids) (slot0 dg) (broadcast S256x128 (Scalar.ofBits .f32 0x00000000#32)))))))))

/-- The logits in the chosen lanes, minus infinity elsewhere. -/
def lm (k : IVec S256x128 1) (lg : FVec F S256x128 .f32) : FVec F S256x128 .f32 :=
  select k lg (broadcast S256x128 (Scalar.ofBits .f32 0xFF800000#32))

/-- The exponentials of the masked logits less their row's maximum. -/
def ex (l : FVec F S256x128 .f32) : FVec F S256x128 .f32 :=
  exp (subf l (broadcastTo S256x128 (shapeCast S256x1 (multiReduction .maximumf [1] S256 l 0xFF800000#32 reduces_S256x128_S256 (.inl rfl) rfl) shapeCasts_S256_S256x1)
    broadcasts_S256x1_S256x128))

/-- A row's sum, in every lane of it. -/
def rowSum (p : FVec F S256x128 .f32) : FVec F S256x128 .f32 :=
  broadcastTo S256x128 (shapeCast S256x1 (multiReduction .add [1] S256 p 0x00000000#32 reduces_S256x128_S256 (.inl rfl) rfl) shapeCasts_S256_S256x1)
    broadcasts_S256x1_S256x128

/-- The softmax's backward over the chosen lanes, from the softmax `g` and the gate gradients `d`. -/
def bwd (k : IVec S256x128 1) (g d : FVec F S256x128 .f32) : FVec F S256x128 .f32 :=
  select k (mulf g (subf d (rowSum (mulf g d)))) (broadcast S256x128 (Scalar.ofBits .f32 0x00000000#32))

/-- The tile's logit gradients are these steps one after the other. -/
theorem dl_eq (X : Vec F S256x7168 .bf16) (w : Vec F S7168x128 .bf16) (ids : Vec F S256x8 .i32) (dg : Vec F S256x8 .bf16) :
    dl X w ids dg =
      bwd (mask ids) (divf (ex (lm (mask ids) (k0_pay108 X w))) (rowSum (ex (lm (mask ids) (k0_pay108 X w))))) (dgd ids dg) := rfl

end General

/-- A lane is chosen exactly if some slot's word is its number. -/
theorem mask_apply (ids : Vec Ideal S256x8 .i32) (t : Fin 256) (e : Fin 128) :
    mask ids (ix2 t e) = 1#1 ↔ ∃ j : Fin 8, ids (ix2 t j) = BitVec.ofNat 32 e.val := by
  pointwise [mask, hit0, hit1, hit2, hit3, hit4, hit5, hit6, hit7]
  simp only [ori_eq]
  constructor
  · rintro ((((((((h | h) | h) | h) | h) | h) | h) | h) | h)
    · exact absurd h (by decide)
    all_goals exact ⟨_, h⟩
  · rintro ⟨j, h⟩
    fin_cases j <;> simp_all

/-- The gate gradients lane by lane. -/
theorem dgd_apply (ids : Vec Ideal S256x8 .i32) (dg : Vec Ideal S256x8 .bf16) (t : Fin 256) (e : Fin 128) :
    dgd ids dg (ix2 t e) = Row.gate (fun j => ids (ix2 t j)) (fun j => dg (ix2 t j)) e := by
  pointwise [dgd, hit0, hit1, hit2, hit3, hit4, hit5, hit6, hit7, slot0, slot1, slot2, slot3, slot4, slot5, slot6, slot7, k0_pay109]
  simp only [select_eq]
  rfl

/-- The masked logits lane by lane. -/
theorem lm_apply (ids : Vec Ideal S256x8 .i32) (lg : FVec Ideal S256x128 .f32) (t : Fin 256) (e : Fin 128) :
    lm (mask ids) lg (ix2 t e) = if ∃ j : Fin 8, ids (ix2 t j) = BitVec.ofNat 32 e.val then lg (ix2 t e) else (⊥ : EReal) := by
  pointwise [lm]
  rw [negInf]
  exact if_congr (mask_apply ids t e) rfl rfl

/-- The exponentials of a row. -/
theorem ex_apply (l : FVec Ideal S256x128 .f32) (t : Fin 256) (e : Fin 128) : ex l (ix2 t e) = Row.ex (fun e => l (ix2 t e)) e := by
  pointwise [ex]
  rw [negInf]
  rfl

/-- A row's sum. -/
theorem rowSum_apply (p : FVec Ideal S256x128 .f32) (t : Fin 256) (e : Fin 128) : rowSum p (ix2 t e) = (∑ k : Fin 128, p (ix2 t k) : EReal) := by
  pointwise [rowSum]

/-- The tile's logits. -/
theorem logits_apply (X : Vec Ideal S256x7168 .bf16) (w : Vec Ideal S7168x128 .bf16) (t : Fin 256) (e : Fin 128) :
    k0_pay108 X w (ix2 t e) = (∑ d : Fin 7168, X (ix2 t d) * w (ix2 d e) : EReal) := by
  pointwise [k0_pay108]

/-- The softmax over the masked logits of a row. -/
theorem soft_apply (l : FVec Ideal S256x128 .f32) (t : Fin 256) (e : Fin 128) :
    divf (ex l) (rowSum (ex l)) (ix2 t e) = Row.soft (fun e => l (ix2 t e)) e := by
  show Ideal.div (ex l (ix2 t e)) (rowSum (ex l) (ix2 t e)) = _
  rw [rowSum_apply]
  simp only [ex_apply]
  rfl

/-- The softmax's backward over the masked logits of a row. -/
theorem bwd_apply (ids : Vec Ideal S256x8 .i32) (l d : FVec Ideal S256x128 .f32) (t : Fin 256) (e : Fin 128) :
    bwd (mask ids) (divf (ex l) (rowSum (ex l))) d (ix2 t e) =
      if ∃ j : Fin 8, ids (ix2 t j) = BitVec.ofNat 32 e.val then Row.back (fun e => l (ix2 t e)) (fun e => d (ix2 t e)) e else (0 : EReal) := by
  have h0 : (Ideal.ofBits .f32 0x00000000#32 : EReal) = 0 := by simp [Ideal.ofBits, Ideal.ieee]
  show Scalar.select (mask ids (ix2 t e)) ((divf (ex l) (rowSum (ex l)) (ix2 t e) : EReal) * ((d (ix2 t e) : EReal) - rowSum (mulf (divf (ex l) (rowSum (ex l))) d) (ix2 t e)) : EReal)
    (Ideal.ofBits .f32 0x00000000#32) = _
  rw [h0]
  refine if_congr (mask_apply ids t e) ?_ rfl
  rw [rowSum_apply, soft_apply]
  unfold Row.back
  congr 2
  refine Finset.sum_congr rfl fun k _ => ?_
  show (divf (ex l) (rowSum (ex l)) (ix2 t k) : EReal) * d (ix2 t k) = _
  rw [soft_apply]

/-- **A tile's logit gradients**: row by row, the softmax's backward over the lanes. -/
theorem dl_apply (X : Vec Ideal S256x7168 .bf16) (w : Vec Ideal S7168x128 .bf16) (ids : Vec Ideal S256x8 .i32) (dg : Vec Ideal S256x8 .bf16)
    (t : Fin 256) (e : Fin 128) :
    dl X w ids dg (ix2 t e) =
      Row.lanes (fun e => ∑ d : Fin 7168, X (ix2 t d) * w (ix2 d e)) (fun j => ids (ix2 t j)) (fun j => dg (ix2 t j)) e := by
  rw [dl_eq, bwd_apply]
  unfold Row.lanes
  simp only [lm_apply, dgd_apply, logits_apply]

/-- **A tile's rows of `dx`**: the logit gradients times the router weights. -/
theorem dx_apply (X : Vec Ideal S256x7168 .bf16) (w : Vec Ideal S7168x128 .bf16) (ids : Vec Ideal S256x8 .i32) (dg : Vec Ideal S256x8 .bf16)
    (t : Fin 256) (d : Fin 7168) :
    dx X w ids dg (ix2 t d) = (∑ e : Fin 128, dl X w ids dg (ix2 t e) * w (ix2 d e) : EReal) := by
  pointwise [dx, k0_pay125, k0_pay124]
  rfl

/-- **A tile's contribution to the transposed `dw`**: the logit gradients times the dequantised tile, summed over the tile's rows. -/
theorem part_apply (X : Vec Ideal S256x7168 .bf16) (w : Vec Ideal S7168x128 .bf16) (ids : Vec Ideal S256x8 .i32) (dg : Vec Ideal S256x8 .bf16)
    (e : Fin 128) (d : Fin 7168) :
    part X w ids dg (ix2 e d) = (∑ t : Fin 256, dl X w ids dg (ix2 t e) * X (ix2 t d) : EReal) := by
  pointwise [part, k0_pay126, k0_pay124]
  rfl

/-- The first point's accumulator is its contribution. -/
theorem pay1_apply (p : FVec Ideal S128x7168 .f32) (e : Fin 128) (d : Fin 7168) : k0_pay1 p (ix2 e d) = (p (ix2 e d) : EReal) := by
  pointwise [k0_pay1]

/-- A later point adds its contribution. -/
theorem pay2_apply (p : FVec Ideal S128x7168 .f32) (a : Vec Ideal S128x7168 .f32) (e : Fin 128) (d : Fin 7168) :
    k0_pay2 p a (ix2 e d) = (a (ix2 e d) + p (ix2 e d) : EReal) := by
  pointwise [k0_pay2]

/-- The last point stores the accumulator transposed. -/
theorem pay3_apply (a : Vec Ideal S128x7168 .f32) (d : Fin 7168) (e : Fin 128) : k0_pay3 a (ix2 d e) = (a (ix2 e d) : EReal) := by
  pointwise [k0_pay3]

end Cert.KernelIdeal.Tile

end
-- ==== Proof.Spec.lean ====
/-
  What the three results are, as functions of the arguments: the token axis is flat (1536 tokens), and nothing here mentions a program.
-/
module

public import proofs.«01_k».proof.Proof.Algebra
public import Idealize.ShloMosaic.Lib.Pointwise

@[expose] public section

noncomputable section

namespace Cert.Spec

open Idealize.ShloMosaic

/-- An array with the tokens in 6 sequences of 256, read at a flat token. -/
def flat {α : Type} {n : ℕ} (X : (⟨3, ![6, 256, n]⟩ : Shape).Idx → α) (t : Fin 1536) (d : Fin n) : α :=
  X (ix3 (⟨t.val / 256, by omega⟩ : Fin 6) (⟨t.val % 256, by omega⟩ : Fin 256) d)

/-- A matrix read at a row and a column. -/
def mat {α : Type} {p n : ℕ} (X : (⟨2, ![p, n]⟩ : Shape).Idx → α) (a : Fin p) (b : Fin n) : α := X (ix2 a b)

variable (x : Fin 1536 → Fin 7168 → EReal) (s : Fin 1536 → Fin 224 → EReal) (w : Fin 7168 → Fin 128 → EReal)
  (ids : Fin 1536 → Fin 8 → BitVec 32) (dg : Fin 1536 → Fin 8 → EReal)

/-- The dequantised activations: the code times the scale of its block of 32 columns. -/
def xb (t : Fin 1536) (d : Fin 7168) : EReal := x t d * s t ⟨d.val / 32, by omega⟩

/-- The router's logits. -/
def logits (t : Fin 1536) (e : Fin 128) : EReal := ∑ d : Fin 7168, xb x s t d * w d e

/-- The logit gradients. -/
def dl (t : Fin 1536) (e : Fin 128) : EReal := Row.slots (logits x s w t) (ids t) (dg t) e

/-- The logit gradients computed lane by lane. -/
def dlLanes (t : Fin 1536) (e : Fin 128) : EReal := Row.lanes (logits x s w t) (ids t) (dg t) e

/-- The gradient with respect to the activations, from logit gradients `g`. -/
def dx (g : Fin 1536 → Fin 128 → EReal) (t : Fin 1536) (d : Fin 7168) : EReal := ∑ e : Fin 128, g t e * w d e

/-- The gradient with respect to the router weights, from logit gradients `g`. -/
def dw (g : Fin 1536 → Fin 128 → EReal) (d : Fin 7168) (e : Fin 128) : EReal := ∑ t : Fin 1536, xb x s t d * g t e

/-- With eight distinct lanes named in every row, the two ways to compute the logit gradients agree. -/
theorem dlLanes_eq (h : ∀ t, Row.Distinct (ids t)) : dlLanes x s w ids dg = dl x s w ids dg :=
  funext fun t => funext fun e => (h t).lanes_eq_slots _ _ e

/-- The flat token of row `a` of tile `k`. -/
def tok (k : Fin 6) (a : Fin 256) : Fin 1536 := ⟨256 * k.val + a.val, by omega⟩

/-- A sum over the tokens is the sum over the tiles of the sums over their rows. -/
theorem sum_tok (f : Fin 1536 → EReal) : ∑ k : Fin 6, ∑ a : Fin 256, f (tok k a) = ∑ t : Fin 1536, f t := by
  rw [← Fintype.sum_prod_type' (f := fun k a => f (tok k a))]
  refine Fintype.sum_equiv (finProdFinEquiv (m := 6) (n := 256)) _ _ fun p => congrArg f (Fin.ext ?_)
  show 256 * p.1.val + p.2.val = p.2.val + 256 * p.1.val
  omega

end Cert.Spec

end
-- ==== Proof.Inputs.lean ====
/-
  What the blocks a grid point reads hold: rows of the arguments, the token axis flattened.
-/
module

public import proofs.«01_k».proof.Proof.Block
public import proofs.«01_k».proof.Proof.Spec
public import Idealize.ShloMosaic.Lib.Pipeline.ValueKit

@[expose] public section

set_option maxRecDepth 16384

noncomputable section

namespace Cert.KernelIdeal.Tile

open Cert.KernelIdeal Cert.KernelIdeal.Gen Idealize.ShloMosaic Idealize.ShloMosaic.TcCoe Idealize.SL.Sem

variable (m : (ℓ : Loc nD τ sig) → Buf (Elt Ideal) ℓ)

/-- The codes, by flat token and column. -/
abbrev codes (c : Dev nD) : Fin 1536 → Fin 7168 → EReal := Spec.flat (m ((c : Thread nD τ).loc main_arg0))
/-- The scales, by flat token and block of columns. -/
abbrev scales (c : Dev nD) : Fin 1536 → Fin 224 → EReal := Spec.flat (m ((c : Thread nD τ).loc main_arg1))
/-- The router weights. -/
abbrev weights (c : Dev nD) : Fin 7168 → Fin 128 → EReal := Spec.mat (m ((c : Thread nD τ).loc main_arg2))
/-- The expert ids, by flat token and slot. -/
abbrev experts (c : Dev nD) : Fin 1536 → Fin 8 → BitVec 32 := Spec.flat (m ((c : Thread nD τ).loc main_arg3))
/-- The gate gradients, by flat token and slot. -/
abbrev gates (c : Dev nD) : Fin 1536 → Fin 8 → EReal := Spec.flat (m ((c : Thread nD τ).loc main_arg4))

/-- A grid point's number. -/
abbrev pt (t : Fin cfg0.N) : Fin 6 := ⟨t.val, lt_of_lt_of_eq t.isLt N_0⟩

/-- Which block each input window gives a grid point. -/
theorem idx : ∀ t : Fin cfg0.N, win0_0.index t = ![t.val, 0] ∧ win0_1.index t = ![t.val, 0] ∧ win0_2.index t = ![0, 0] ∧ win0_3.index t = ![t.val, 0] ∧ win0_4.index t = ![t.val, 0] :=
  (by decide +kernel : ∀ t : Fin grid0.N, win0_0.index t = ![t.val, 0] ∧ win0_1.index t = ![t.val, 0] ∧ win0_2.index t = ![0, 0] ∧ win0_3.index t = ![t.val, 0] ∧ win0_4.index t = ![t.val, 0])

/-- Grid point `t`'s block of codes is its 256 tokens' rows. -/
theorem codes_apply (c : Dev nD) (t : Fin cfg0.N) (a : Fin 256) (d : Fin 7168) :
    iblk m c 0 t (ix2 a d) = codes m c (Spec.tok (pt t) a) d := by
  unfold codes Spec.flat
  blk_ext! [iblk, V, idx t, Spec.tok, pt]

/-- Grid point `t`'s block of scales is its 256 tokens' rows. -/
theorem scales_apply (c : Dev nD) (t : Fin cfg0.N) (a : Fin 256) (d : Fin 224) :
    iblk m c 1 t (ix2 a d) = scales m c (Spec.tok (pt t) a) d := by
  unfold scales Spec.flat
  blk_ext! [iblk, V, idx t, Spec.tok, pt]

/-- Every grid point reads the whole router weights. -/
theorem weights_apply (c : Dev nD) (t : Fin cfg0.N) (d : Fin 7168) (e : Fin 128) :
    iblk m c 2 t (ix2 d e) = weights m c d e := by
  unfold weights Spec.mat
  blk_ext! [iblk, V, idx t]

/-- Grid point `t`'s block of expert ids is its 256 tokens' rows. -/
theorem experts_apply (c : Dev nD) (t : Fin cfg0.N) (a : Fin 256) (j : Fin 8) :
    iblk m c 3 t (ix2 a j) = experts m c (Spec.tok (pt t) a) j := by
  unfold experts Spec.flat
  blk_ext! [iblk, V, idx t, Spec.tok, pt]

/-- Grid point `t`'s block of gate gradients is its 256 tokens' rows. -/
theorem gates_apply (c : Dev nD) (t : Fin cfg0.N) (a : Fin 256) (j : Fin 8) :
    iblk m c 4 t (ix2 a j) = gates m c (Spec.tok (pt t) a) j := by
  unfold gates Spec.flat
  blk_ext! [iblk, V, idx t, Spec.tok, pt]

/-- The dequantised activations of the launch's arguments. -/
abbrev XS (c : Dev nD) : Fin 1536 → Fin 7168 → EReal := Spec.xb (codes m c) (scales m c)

/-- The logit gradients of the launch's arguments, computed lane by lane. -/
abbrev DL (c : Dev nD) : Fin 1536 → Fin 128 → EReal := Spec.dlLanes (codes m c) (scales m c) (weights m c) (experts m c) (gates m c)

/-- The tile a grid point loads back is its rows of the dequantised activations. -/
theorem xbAt_apply (c : Dev nD) (t : Fin cfg0.N) (a : Fin 256) (d : Fin 7168) : xbAt m c t (ix2 a d) = XS m c (Spec.tok (pt t) a) d := by
  show xb (iblk m c 0 t) (iblk m c 1 t) (ix2 a d) = _
  rw [xb_eq]
  exact congrArg₂ (fun u v : EReal => u * v) (codes_apply m c t a d) (scales_apply m c t a _)

/-- A grid point's logit gradients. -/
theorem dlAt_apply (c : Dev nD) (t : Fin cfg0.N) (a : Fin 256) (e : Fin 128) : dlAt m c t (ix2 a e) = DL m c (Spec.tok (pt t) a) e := by
  show dl (xbAt m c t) (iblk m c 2 t) (iblk m c 3 t) (iblk m c 4 t) (ix2 a e) = _
  rw [dl_apply]
  simp only [xbAt_apply, weights_apply, experts_apply, gates_apply]
  rfl

/-- A grid point's rows of `dx`. -/
theorem dxAt_apply (c : Dev nD) (t : Fin cfg0.N) (a : Fin 256) (d : Fin 7168) :
    dxAt m c t (ix2 a d) = Spec.dx (weights m c) (DL m c) (Spec.tok (pt t) a) d := by
  show dx (xbAt m c t) (iblk m c 2 t) (iblk m c 3 t) (iblk m c 4 t) (ix2 a d) = _
  rw [dx_apply]
  refine Finset.sum_congr rfl fun e _ => ?_
  rw [weights_apply]
  exact congrArg (fun v : EReal => v * weights m c d e) (dlAt_apply m c t a e)

/-- A grid point's contribution to the transposed `dw`. -/
theorem partAt_apply (c : Dev nD) (t : Fin cfg0.N) (e : Fin 128) (d : Fin 7168) :
    partAt m c t (ix2 e d) = (∑ a : Fin 256, XS m c (Spec.tok (pt t) a) d * DL m c (Spec.tok (pt t) a) e : EReal) := by
  show part (xbAt m c t) (iblk m c 2 t) (iblk m c 3 t) (iblk m c 4 t) (ix2 e d) = _
  rw [part_apply]
  refine Finset.sum_congr rfl fun a _ => ?_
  rw [xbAt_apply, mul_comm]
  exact congrArg (fun v : EReal => XS m c (Spec.tok (pt t) a) d * v) (dlAt_apply m c t a e)

end Cert.KernelIdeal.Tile

end
-- ==== Proof.Arrays.lean ====
/-
  What the three result arrays hold after the run. Two of them are written block by block, one block per grid point. The third is written once, at the last
  point: the transpose of an accumulator that every point added its contribution to.
-/
module

public import proofs.«01_k».proof.Proof.Inputs

@[expose] public section

set_option maxRecDepth 16384

noncomputable section

namespace Cert.KernelIdeal.Tile

open Cert.KernelIdeal Cert.KernelIdeal.Gen Idealize.ShloMosaic Idealize.ShloMosaic.TcCoe Idealize.SL.Sem

variable (m : (ℓ : Loc nD τ sig) → Buf (Elt Ideal) ℓ)

section General

variable {F : FTy → Type} [FloatOps F] (m : (ℓ : Loc nD τ sig) → Buf (Elt F) ℓ)

/-- After any grid point the block of `dx` holds that point's rows. -/
theorem outs_dx (c : Dev nD) (t : Fin cfg0.N) : (outsAt0 m c t.val t.isLt).1 = dxAt m c t := by
  have ht : t.val < 6 := lt_of_lt_of_eq t.isLt N_0
  by_cases h0 : t.val % 6 = 0
  · exact dx_A m c t h0 (by omega) (by omega)
  · by_cases h2 : t.val % 6 = 5
    · exact dx_C m c t h0 (by omega) h2
    · exact dx_B m c t h0 (by omega) h2

/-- After any grid point the block of logit gradients holds that point's. -/
theorem outs_dl (c : Dev nD) (t : Fin cfg0.N) : (outsAt0 m c t.val t.isLt).2.2.1 = dlAt m c t := by
  have ht : t.val < 6 := lt_of_lt_of_eq t.isLt N_0
  by_cases h0 : t.val % 6 = 0
  · exact dl_A m c t h0 (by omega) (by omega)
  · by_cases h2 : t.val % 6 = 5
    · exact dl_C m c t h0 (by omega) h2
    · exact dl_B m c t h0 (by omega) h2

/-- After a later grid point the accumulator holds what the point before left plus the point's contribution. -/
theorem outs_acc (c : Dev nD) (t : Fin cfg0.N) (h0 : ¬t.val % 6 = 0) :
    (outsAt0 m c t.val t.isLt).2.2.2 = k0_pay2 (partAt m c t) (outsAt0 m c (t.val - 1) (lt_of_le_of_lt (Nat.sub_le _ _) t.isLt)).2.2.2 := by
  have ht : t.val < 6 := lt_of_lt_of_eq t.isLt N_0
  by_cases h2 : t.val % 6 = 5
  · exact acc_C m c t h0 (by omega) h2
  · exact acc_B m c t h0 (by omega) h2

/-- After the last grid point the block of `dw` holds the accumulator transposed. -/
theorem outs_dw (c : Dev nD) (t : Fin cfg0.N) (h2 : t.val % 6 = 5) :
    (outsAt0 m c t.val t.isLt).2.1 = k0_pay3 (outsAt0 m c t.val t.isLt).2.2.2 := by
  have ht : t.val < 6 := lt_of_lt_of_eq t.isLt N_0
  rw [dw_C m c t (by omega) (by omega) h2, acc_C m c t (by omega) (by omega) h2]

end General

/-- Grid point `k`'s contribution to the transposed `dw`, for any number `k`. -/
def term (c : Dev nD) (k : ℕ) (i : S128x7168.Idx) : EReal := if h : k < cfg0.N then partAt m c ⟨k, h⟩ i else 0

/-- A grid point's contribution, by its number. -/
theorem term_eq (c : Dev nD) (t : Fin cfg0.N) (i : S128x7168.Idx) : term m c t.val i = partAt m c t i := dif_pos t.isLt

/-- After the last grid point the accumulator holds the sum of the six contributions. -/
theorem acc_sum (c : Dev nD) (t : Fin cfg0.N) (h2 : t.val % 6 = 5) (i : S128x7168.Idx) :
    (outsAt0 m c t.val t.isLt).2.2.2 i = (∑ k ∈ Finset.range 6, term m c k i : EReal) := by
  have hN : cfg0.N = 6 := N_0
  have key := Pipeline.eq_sum_of_reset_step_apply (N := cfg0.N) (fun n h => (fun i => ((outsAt0 m c n h).2.2.2 i : EReal) : S128x7168.Idx → EReal)) 6 (fun _ => (0 : EReal)) (term m c)
    (fun t h i => by
      have ht : t.val < 6 := lt_of_lt_of_eq t.isLt N_0
      show ((outsAt0 m c t.val t.isLt).2.2.2 i : EReal) = 0 + term m c t.val i
      rw [acc_A m c t h (by omega) (by omega), term_eq, zero_add, eq_ix2 i]
      exact pay1_apply _ _ _)
    (fun t h i => by
      show ((outsAt0 m c t.val t.isLt).2.2.2 i : EReal) = (outsAt0 m c (t.val - 1) _).2.2.2 i + term m c t.val i
      rw [outs_acc m c t h, term_eq, eq_ix2 i]
      exact pay2_apply _ _ _ _) t i
  have ht : t.val < 6 := lt_of_lt_of_eq t.isLt N_0
  have h5 : t.val / 6 = 0 := by omega
  rw [h2, h5] at key
  simpa using key

/-- Which block each output window writes at a grid point. -/
theorem idx_out : ∀ t : Fin cfg0.N, win0_5.index t = ![t.val, 0] ∧ win0_6.index t = ![0, 0] ∧ win0_7.index t = ![t.val, 0] :=
  (by decide +kernel : ∀ t : Fin grid0.N, win0_5.index t = ![t.val, 0] ∧ win0_6.index t = ![0, 0] ∧ win0_7.index t = ![t.val, 0])

/-- **The array of logit gradients** after the run. -/
theorem dl_array (c : Dev nD) : (dats m 0 c).arrAt 7 cfg0.N = fun i : S1536x128.Idx => DL m c (i 0) (i 1) := by
  refine (dats m 0 c).arrAt_eq_of_covers 7 _ (by decide +kernel) fun t hf y => ?_
  have e := (idx_out t).2.2
  have b0 : ((win0_7.blk t).view.emb y 0).val = win0_7.index t (0 : Fin 2) * 256 + 1 * (y 0).val := rfl
  have b1 : ((win0_7.blk t).view.emb y 1).val = win0_7.index t (1 : Fin 2) * 128 + 1 * (y 1).val := rfl
  rw [e] at b0 b1
  blk_simp
  rw [after0_7, outs_dl]
  refine (congrArg (dlAt m c t) (eq_ix2 (n0 := 256) (n1 := 128) y)).trans ((dlAt_apply m c t (y 0) (y 1)).trans ?_)
  refine congrArg₂ (DL m c) (Fin.ext ?_) (Fin.ext ?_)
  · rw [b0]; show 256 * t.val + (y 0).val = t.val * 256 + 1 * (y 0).val; omega
  · rw [b1]; show (y 1).val = 0 * 128 + 1 * (y 1).val; omega

/-- **The array `dx`** after the run. -/
theorem dx_array (c : Dev nD) : (dats m 0 c).arrAt 5 cfg0.N = fun i : S1536x7168.Idx => Spec.dx (weights m c) (DL m c) (i 0) (i 1) := by
  refine (dats m 0 c).arrAt_eq_of_covers 5 _ (by decide +kernel) fun t hf y => ?_
  have e := (idx_out t).1
  have b0 : ((win0_5.blk t).view.emb y 0).val = win0_5.index t (0 : Fin 2) * 256 + 1 * (y 0).val := rfl
  have b1 : ((win0_5.blk t).view.emb y 1).val = win0_5.index t (1 : Fin 2) * 7168 + 1 * (y 1).val := rfl
  rw [e] at b0 b1
  blk_simp
  rw [after0_5, outs_dx]
  refine (congrArg (dxAt m c t) (eq_ix2 (n0 := 256) (n1 := 7168) y)).trans ((dxAt_apply m c t (y 0) (y 1)).trans ?_)
  refine congrArg₂ (Spec.dx (weights m c) (DL m c)) (Fin.ext ?_) (Fin.ext ?_)
  · rw [b0]; show 256 * t.val + (y 0).val = t.val * 256 + 1 * (y 0).val; omega
  · rw [b1]; show (y 1).val = 0 * 7168 + 1 * (y 1).val; omega

/-- The accumulator after the last grid point is the transposed `dw`. -/
theorem acc_dw (c : Dev nD) (t : Fin cfg0.N) (h2 : t.val % 6 = 5) (e : Fin 128) (d : Fin 7168) :
    (outsAt0 m c t.val t.isLt).2.2.2 (ix2 e d) = Spec.dw (codes m c) (scales m c) (DL m c) d e := by
  have hN : cfg0.N = 6 := N_0
  refine (acc_sum m c t h2 (ix2 e d)).trans ?_
  unfold Spec.dw
  rw [← Spec.sum_tok, Finset.sum_range]
  refine Finset.sum_congr rfl fun k _ => ?_
  have hk : k.val < cfg0.N := by omega
  rw [term_eq m c ⟨k.val, hk⟩]
  exact partAt_apply m c ⟨k.val, hk⟩ e d

/-- **The array `dw`** after the run. -/
theorem dw_array (c : Dev nD) : (dats m 0 c).arrAt 6 cfg0.N = fun i : S7168x128.Idx => Spec.dw (codes m c) (scales m c) (DL m c) (i 0) (i 1) := by
  refine (dats m 0 c).arrAt_eq_of_covers 6 _ (by decide +kernel) fun t hf y => ?_
  have h5 := (flush0_6 t).mp hf
  have e := (idx_out t).2.1
  have b0 : ((win0_6.blk t).view.emb y 0).val = win0_6.index t (0 : Fin 2) * 7168 + 1 * (y 0).val := rfl
  have b1 : ((win0_6.blk t).view.emb y 1).val = win0_6.index t (1 : Fin 2) * 128 + 1 * (y 1).val := rfl
  rw [e] at b0 b1
  blk_simp
  rw [after0_6, outs_dw m c t h5]
  refine (congrArg (k0_pay3 (outsAt0 m c t.val t.isLt).2.2.2) (eq_ix2 (n0 := 7168) (n1 := 128) y)).trans ((pay3_apply _ (y 0) (y 1)).trans ((acc_dw m c t h5 (y 1) (y 0)).trans ?_))
  refine congrArg₂ (Spec.dw (codes m c) (scales m c) (DL m c)) (Fin.ext ?_) (Fin.ext ?_)
  · rw [b0]; show (y 0).val = 0 * 7168 + 1 * (y 0).val; omega
  · rw [b1]; show (y 1).val = 0 * 128 + 1 * (y 1).val; omega

end Cert.KernelIdeal.Tile

end
-- ==== Proof.Reference.lean ====
/-
  What the reference computes, stage by stage, as functions of the arguments and of the widened codes.
-/
module

public import proofs.«01_k».proof.Proof.Gen.ReferenceIdeal.Read
public import proofs.«01_k».proof.Proof.Spec
public import proofs.«01_k».proof.Proof.Words
public import Idealize.ShloMosaic.Lib.Pointwise

@[expose] public section

set_option maxRecDepth 16384

noncomputable section

namespace Cert.ReferenceIdeal.Stages

open Cert.ReferenceIdeal Cert.ReferenceIdeal.Gen Cert.ReferenceIdeal.Read Cert.Words Idealize.ShloMosaic Idealize.ShloMosaic.TcCoe Idealize.SL.Sem

variable (x1 : FVec Ideal S6x256x224 .f32) (x2 : FVec Ideal S7168x128 .bf16) (x3 : IVec S6x256x8 32) (x4 : FVec Ideal S6x256x8 .bf16) (r0 : FVec Ideal S1536x7168 .bf16)

/-- The dequantised activations. -/
theorem xb_apply (t : Fin 1536) (d : Fin 7168) : val_main_v8 (F := Ideal) x1 r0 (ix2 t d) = Spec.xb (Spec.mat r0) (Spec.flat x1) t d := by
  rw [val_main_v8_apply, val_main_v7_apply, val_main_v2_apply, val_main_v6_apply, val_main_v5_apply, val_main_v4_apply, val_main_v3_apply]
  refine congrArg₂ (fun u v : EReal => u * v) (congrArg r0 (funext fun a => ?_)) (congrArg x1 (funext fun a => ?_))
  · have ht := t.isLt
    have hd := d.isLt
    fin_cases a <;> refine Fin.ext ?_
    · show (((t.val * 7168 + d.val) / 7168 * 224 + (t.val * 7168 + d.val) / 32 % 224) * 32 + (t.val * 7168 + d.val) % 32) / 7168 = t.val
      omega
    · show (((t.val * 7168 + d.val) / 7168 * 224 + (t.val * 7168 + d.val) / 32 % 224) * 32 + (t.val * 7168 + d.val) % 32) % 7168 = d.val
      omega
  · have ht := t.isLt
    have hd := d.isLt
    fin_cases a <;> refine Fin.ext ?_
    · show ((t.val * 7168 + d.val) / 7168 * 224 + (t.val * 7168 + d.val) / 32 % 224) / 57344 = t.val / 256
      omega
    · show ((t.val * 7168 + d.val) / 7168 * 224 + (t.val * 7168 + d.val) / 32 % 224) / 224 % 256 = t.val % 256
      omega
    · show ((t.val * 7168 + d.val) / 7168 * 224 + (t.val * 7168 + d.val) / 32 % 224) % 224 = d.val / 32
      omega

/-- The logits. -/
theorem logits_apply (t : Fin 1536) (e : Fin 128) :
    val_main_v9 (F := Ideal) x1 x2 r0 (ix2 t e) = Spec.logits (Spec.mat r0) (Spec.flat x1) (Spec.mat x2) t e := by
  have h := val_main_v9_apply x1 x2 r0 (ix2 t e)
  refine h.trans (Finset.sum_congr rfl fun k _ => ?_)
  exact congrArg₂ (fun u v : EReal => u * v) ((congrArg (val_main_v8 (F := Ideal) x1 r0) (eq_ix2 _)).trans (xb_apply x1 r0 t k)) (congrArg x2 (eq_ix2 _))

/-- The expert ids, by flat token and slot. -/
theorem ids_apply (t : Fin 1536) (j : Fin 8) : val_main_v10 (F := Ideal) x3 (ix2 t j) = Spec.flat x3 t j := by
  rw [val_main_v10_apply]
  refine congrArg x3 (funext fun a => ?_)
  fin_cases a <;> refine Fin.ext ?_
  · show (t.val * 8 + j.val) / 2048 = t.val / 256; omega
  · show (t.val * 8 + j.val) / 8 % 256 = t.val % 256; omega
  · show (t.val * 8 + j.val) % 8 = j.val; omega

/-- The gate gradients, by flat token and slot. -/
theorem gates_apply (t : Fin 1536) (j : Fin 8) : val_main_v32 (F := Ideal) x4 (ix2 t j) = Spec.flat x4 t j := by
  rw [val_main_v32_apply, val_main_v31_apply]
  refine congrArg x4 (funext fun a => ?_)
  fin_cases a <;> refine Fin.ext ?_
  · show (t.val * 8 + j.val) / 2048 = t.val / 256; omega
  · show (t.val * 8 + j.val) / 8 % 256 = t.val % 256; omega
  · show (t.val * 8 + j.val) % 8 = j.val; omega

/-- The comparison of a slot's id with a lane's number. -/
theorem hit_apply (t : Fin 1536) (j : Fin 8) (e : Fin 128) :
    val_main_v16 (F := Ideal) x3 (ix3 t j e) = IntOp.cmpi .eq (Spec.flat x3 t j) (BitVec.ofNat 32 e.val) := by
  rw [← ids_apply]
  pointwise [val_main_v16, val_main_v15, val_main_v14, val_main_v13, val_main_v12, val_main_v11]

/-- The logit of each slot's lane. -/
abbrev sel (t : Fin 1536) : Fin 8 → EReal := Row.pick (Spec.logits (Spec.mat r0) (Spec.flat x1) (Spec.mat x2) t) (Spec.flat x3 t)

/-- The sum over the lanes of the logits at a slot's id is that logit. -/
theorem sel_apply (t : Fin 1536) (j : Fin 8) : val_main_v19 (F := Ideal) x1 x2 x3 r0 (ix2 t j) = sel x1 x2 x3 r0 t j := by
  pointwise [val_main_v19, val_main_v18, val_main_call0_v1, val_main_call0_v2, val_main_call0_v0, val_main_cst, val_main_cst_0, val_main_v17]
  refine Finset.sum_congr rfl fun e _ => ?_
  rw [hit_apply, select_eq, logits_apply]
  exact if_congr Iff.rfl rfl zero

/-- The greatest of a token's chosen logits. -/
theorem top_apply (t : Fin 1536) (j : Fin 8) : val_main_v24 (F := Ideal) x1 x2 x3 r0 (ix2 t j) = Row.top (sel x1 x2 x3 r0 t) := by
  pointwise [val_main_v24, val_main_v23, val_main_v22, val_main_v21, val_main_v20, val_main_cst_2, val_main_cst_1]
  rw [negInf, max_eq_right bot_le]
  unfold Row.top
  simp only [sel_apply]

/-- The exponentials of a token's chosen logits. -/
theorem ex_apply (t : Fin 1536) (j : Fin 8) : val_main_v26 (F := Ideal) x1 x2 x3 r0 (ix2 t j) = Row.ex (sel x1 x2 x3 r0 t) j := by
  rw [val_main_v26_apply, val_main_v25_apply, sel_apply, top_apply]
  rfl

/-- The softmax of a token's chosen logits. -/
theorem soft_apply (t : Fin 1536) (j : Fin 8) : val_main_v30 (F := Ideal) x1 x2 x3 r0 (ix2 t j) = Row.soft (sel x1 x2 x3 r0 t) j := by
  pointwise [val_main_v30, val_main_v29, val_main_v28, val_main_v27, val_main_cst_3]
  simp only [ex_apply]
  rfl

/-- The softmax's backward. -/
theorem back_apply (t : Fin 1536) (j : Fin 8) : val_main_v38 (F := Ideal) x1 x2 x3 x4 r0 (ix2 t j) = Row.back (sel x1 x2 x3 r0 t) (Spec.flat x4 t) j := by
  pointwise [val_main_v38, val_main_v37, val_main_v36, val_main_v35, val_main_v34, val_main_v33, val_main_cst_4]
  simp only [soft_apply, gates_apply]
  rfl

/-- The logit gradients. -/
theorem dl_apply (t : Fin 1536) (e : Fin 128) :
    val_main_v41 (F := Ideal) x1 x2 x3 x4 r0 (ix2 t e) = Spec.dl (Spec.mat r0) (Spec.flat x1) (Spec.mat x2) (Spec.flat x3) (Spec.flat x4) t e := by
  pointwise [val_main_v41, val_main_v40, val_main_v39, val_main_call1_v0, val_main_call1_v1, val_main_call1_v2, val_main_cst_5, val_main_cst_6]
  unfold Spec.dl Row.slots
  refine Finset.sum_congr rfl fun j _ => ?_
  rw [hit_apply, select_eq, back_apply]
  exact if_congr Iff.rfl rfl zero

/-- The gradient with respect to the activations. -/
theorem dx_apply (t : Fin 1536) (d : Fin 7168) :
    val_main_v44 (F := Ideal) x1 x2 x3 x4 r0 (ix2 t d) =
      Spec.dx (Spec.mat x2) (Spec.dl (Spec.mat r0) (Spec.flat x1) (Spec.mat x2) (Spec.flat x3) (Spec.flat x4)) t d := by
  have h := val_main_v43_apply x1 x2 x3 x4 r0 (ix2 t d)
  refine h.trans (Finset.sum_congr rfl fun k _ => ?_)
  exact congrArg₂ (fun u v : EReal => u * v) ((congrArg (val_main_v41 (F := Ideal) x1 x2 x3 x4 r0) (eq_ix2 _)).trans (dl_apply x1 x2 x3 x4 r0 t k)) (congrArg x2 (eq_ix2 _))

/-- The gradient with respect to the router weights. -/
theorem dw_apply (d : Fin 7168) (e : Fin 128) :
    val_main_v45 (F := Ideal) x1 x2 x3 x4 r0 (ix2 d e) =
      Spec.dw (Spec.mat r0) (Spec.flat x1) (Spec.dl (Spec.mat r0) (Spec.flat x1) (Spec.mat x2) (Spec.flat x3) (Spec.flat x4)) d e := by
  have h := val_main_v45_apply x1 x2 x3 x4 r0 (ix2 d e)
  refine h.trans (Finset.sum_congr rfl fun k _ => ?_)
  exact congrArg₂ (fun u v : EReal => u * v) ((congrArg (val_main_v8 (F := Ideal) x1 r0) (eq_ix2 _)).trans (xb_apply x1 r0 k d))
    ((congrArg (val_main_v41 (F := Ideal) x1 x2 x3 x4 r0) (eq_ix2 _)).trans (dl_apply x1 x2 x3 x4 r0 k e))

end Cert.ReferenceIdeal.Stages

end
-- ==== Proof.Region.lean ====
/-
  The reference's one kernel call widens the codes: what it leaves is the codes, the token axis flattened.
-/
module

public import proofs.«01_k».proof.Proof.Gen.ReferenceIdeal.Run
public import proofs.«01_k».proof.Proof.Reference
public import Idealize.ShloMosaic.Lib.Pipeline.ValueKit

@[expose] public section

set_option maxRecDepth 16384

noncomputable section

namespace Cert.ReferenceIdeal.Stages

open Cert.ReferenceIdeal Cert.ReferenceIdeal.Gen Idealize.ShloMosaic Idealize.ShloMosaic.TcCoe Idealize.SL.Sem

variable (m : (ℓ : Loc nD τ sig) → Buf (Elt Ideal) ℓ)

/-- Which block each window takes at the one grid point. -/
theorem idx : ∀ t : Fin cfg0.N, win0_0.index t = ![0, 0] ∧ win0_1.index t = ![0, 0] :=
  (by decide +kernel : ∀ t : Fin grid0.N, win0_0.index t = ![0, 0] ∧ win0_1.index t = ![0, 0])

/-- The array the widening reads is the codes with the token axis flattened. -/
theorem operand (c : Dev nD) : V m c main_v0 = shapeCast S1536x7168 (m ((c : Thread nD τ).loc main_arg0)) shapeCasts_S6x256x7168_S1536x7168 := by
  show StableHlo.after (List.flatten [hostOps0]) (fun b => m (c, b)) (Proc.devRef .tc main_v0) = _
  simp only [hostOps0, List.flatten_cons, List.flatten_nil, List.append_nil, List.cons_append, List.nil_append]
  after_results_simp <;> rfl

/-- An array with its token axis flattened, read at a flat token. -/
theorem flat_cast (X : FVec Ideal S6x256x7168 .fp8e4m3) (a : Fin 1536) (d : Fin 7168) :
    shapeCast S1536x7168 X shapeCasts_S6x256x7168_S1536x7168 (ix2 a d) = (Spec.flat X a d : EReal) := by
  refine shapeCast_apply X _ (ix2 a d) (ix3 (⟨a.val / 256, by omega⟩ : Fin 6) (⟨a.val % 256, by omega⟩ : Fin 256) d) ?_
  rewrite [Shape.rowMajor_val_three, Shape.rowMajor_val_two]
  show (a.val / 256 * 256 + a.val % 256) * 7168 + d.val = a.val * 7168 + d.val
  omega

/-- The block the widening reads is the codes, by flat token. -/
theorem block_apply (c : Dev nD) (t : Fin cfg0.N) (a : Fin 1536) (d : Fin 7168) :
    iblk m c 0 t (ix2 a d) = (Spec.flat (m ((c : Thread nD τ).loc main_arg0)) a d : EReal) := by
  have e := (idx t).1
  have b0 : ((win0_0.blk t).view.emb (ix2 a d) 0).val = win0_0.index t (0 : Fin 2) * 1536 + 1 * a.val := rfl
  have b1 : ((win0_0.blk t).view.emb (ix2 a d) 1).val = win0_0.index t (1 : Fin 2) * 7168 + 1 * d.val := rfl
  rw [e] at b0 b1
  have h : (win0_0.blk t).view.emb (ix2 a d) = ix2 a d := by
    refine funext fun x => Fin.ext ?_
    fin_cases x
    · exact b0.trans (by show 0 * 1536 + 1 * a.val = a.val; omega)
    · exact b1.trans (by show 0 * 7168 + 1 * d.val = d.val; omega)
  show V m c main_v0 ((win0_0.blk t).view.emb (ix2 a d)) = _
  rw [h, operand]
  exact flat_cast _ a d

/-- The widening leaves its input's values. -/
theorem out_apply (x0 : Vec Ideal S1536x7168 .fp8e4m3) (i : S1536x7168.Idx) : out0_1 x0 i = (x0 i : EReal) := by
  have h0 : ∀ a, (![0, 0] : Fin 2 → ℕ) a = 0 := by decide
  unfold out0_1
  refine (congrFun (View.canon_cons_unit_lit _ _ [] h0) i).trans ?_
  have h1 : View.ld x0 r0_0 = x0 := View.ld_unit_lit _ _ h0
  rw [h1]
  unfold k0_pay1
  rw [shapeCast_self]
  rfl

/-- What the kernel call leaves. -/
theorem region (c : Dev nD) : Cert.ReferenceIdeal.Value.reg_main_v1 m c = fun i : S1536x7168.Idx => Spec.flat (m ((c : Thread nD τ).loc main_arg0)) (i 0) (i 1) := by
  unfold Cert.ReferenceIdeal.Value.reg_main_v1
  refine (dats m 0 c).arrAt_eq_of_covers 1 _ (by decide +kernel) fun t hf y => ?_
  have e := (idx t).2
  have b0 : ((win0_1.blk t).view.emb y 0).val = win0_1.index t (0 : Fin 2) * 1536 + 1 * (y 0).val := rfl
  have b1 : ((win0_1.blk t).view.emb y 1).val = win0_1.index t (1 : Fin 2) * 7168 + 1 * (y 1).val := rfl
  rw [e] at b0 b1
  blk_simp
  rw [after0_1]
  refine (out_apply _ y).trans ((congrArg (iblk m c 0 t) (eq_ix2 (n0 := 1536) (n1 := 7168) y)).trans ((block_apply m c t (y 0) (y 1)).trans ?_))
  refine congrArg₂ (Spec.flat (m ((c : Thread nD τ).loc main_arg0))) (Fin.ext ?_) (Fin.ext ?_)
  · rw [b0]; show (y 0).val = 0 * 1536 + 1 * (y 0).val; omega
  · rw [b1]; show (y 1).val = 0 * 7168 + 1 * (y 1).val; omega

end Cert.ReferenceIdeal.Stages

end
-- ==== Proof.Results.lean ====
/-
  The reference's three results, as functions of the arguments.
-/
module

public import proofs.«01_k».proof.Proof.Region

@[expose] public section

set_option maxRecDepth 16384

noncomputable section

namespace Cert.ReferenceIdeal.Stages

open Cert.ReferenceIdeal Cert.ReferenceIdeal.Gen Cert.ReferenceIdeal.Read Cert.ReferenceIdeal.Value Idealize.ShloMosaic Idealize.ShloMosaic.TcCoe Idealize.SL.Sem

variable (m : (ℓ : Loc nD τ sig) → Buf (Elt Ideal) ℓ)

/-- The codes, by flat token and column. -/
abbrev codes (c : Dev nD) : Fin 1536 → Fin 7168 → EReal := Spec.flat (m ((c.tc : Thread nD τ).loc main_arg0))
/-- The scales, by flat token and block of columns. -/
abbrev scales (c : Dev nD) : Fin 1536 → Fin 224 → EReal := Spec.flat (m ((c.tc : Thread nD τ).loc main_arg1))
/-- The router weights. -/
abbrev weights (c : Dev nD) : Fin 7168 → Fin 128 → EReal := Spec.mat (m ((c.tc : Thread nD τ).loc main_arg2))
/-- The expert ids, by flat token and slot. -/
abbrev experts (c : Dev nD) : Fin 1536 → Fin 8 → BitVec 32 := Spec.flat (m ((c.tc : Thread nD τ).loc main_arg3))
/-- The gate gradients, by flat token and slot. -/
abbrev gates (c : Dev nD) : Fin 1536 → Fin 8 → EReal := Spec.flat (m ((c.tc : Thread nD τ).loc main_arg4))
/-- The logit gradients, slot by slot. -/
abbrev DL (c : Dev nD) : Fin 1536 → Fin 128 → EReal := Spec.dl (codes m c) (scales m c) (weights m c) (experts m c) (gates m c)

/-- What the kernel call leaves is the codes. -/
theorem mat_region (c : Dev nD) : Spec.mat (α := EReal) (p := 1536) (n := 7168) (reg_main_v1 m c) = codes m c := by
  rw [region]
  rfl

/-- **The reference's logit gradients.** -/
theorem dl_result (c : Dev nD) : res_main_v41 m c = fun i : S1536x128.Idx => DL m c (i 0) (i 1) := by
  have h : res_main_v41 m c = val_main_v41 (F := Ideal) (m ((c.tc : Thread nD τ).loc main_arg1)) (m ((c.tc : Thread nD τ).loc main_arg2))
      (m ((c.tc : Thread nD τ).loc main_arg3)) (m ((c.tc : Thread nD τ).loc main_arg4)) (reg_main_v1 m c) := by unfold res_main_v41; rfl
  refine h.trans (funext fun i => ?_)
  refine (congrArg _ (eq_ix2 (n0 := 1536) (n1 := 128) i)).trans ((dl_apply _ _ _ _ _ (i 0) (i 1)).trans ?_)
  rw [mat_region]

/-- **The reference's `dx`.** -/
theorem dx_result (c : Dev nD) : res_main_v44 m c = fun i : S1536x7168.Idx => Spec.dx (weights m c) (DL m c) (i 0) (i 1) := by
  have h : res_main_v44 m c = val_main_v44 (F := Ideal) (m ((c.tc : Thread nD τ).loc main_arg1)) (m ((c.tc : Thread nD τ).loc main_arg2))
      (m ((c.tc : Thread nD τ).loc main_arg3)) (m ((c.tc : Thread nD τ).loc main_arg4)) (reg_main_v1 m c) := by unfold res_main_v44; rfl
  refine h.trans (funext fun i => ?_)
  refine (congrArg _ (eq_ix2 (n0 := 1536) (n1 := 7168) i)).trans ((dx_apply _ _ _ _ _ (i 0) (i 1)).trans ?_)
  rw [mat_region]

/-- **The reference's `dw`.** -/
theorem dw_result (c : Dev nD) : res_main_v45 m c = fun i : S7168x128.Idx => Spec.dw (codes m c) (scales m c) (DL m c) (i 0) (i 1) := by
  have h : res_main_v45 m c = val_main_v45 (F := Ideal) (m ((c.tc : Thread nD τ).loc main_arg1)) (m ((c.tc : Thread nD τ).loc main_arg2))
      (m ((c.tc : Thread nD τ).loc main_arg3)) (m ((c.tc : Thread nD τ).loc main_arg4)) (reg_main_v1 m c) := by unfold res_main_v45; rfl
  refine h.trans (funext fun i => ?_)
  refine (congrArg _ (eq_ix2 (n0 := 7168) (n1 := 128) i)).trans ((dw_apply _ _ _ _ _ (i 0) (i 1)).trans ?_)
  rw [mat_region]

end Cert.ReferenceIdeal.Stages

end
-- ==== Proof.Pre.lean ====
/-
  What the precondition says: in every token the eight expert ids are lanes, and no two are the same.
-/
module

public import proofs.«01_k».proof.Defs
public import proofs.«01_k».proof.Proof.Gen.Pre_distinct_experts
public import proofs.«01_k».proof.Proof.Spec
public import proofs.«01_k».proof.Proof.Words
public import Idealize.ShloMosaic.Lib.Pointwise

@[expose] public section

set_option maxRecDepth 16384

noncomputable section

namespace Cert.Pre_distinct_experts

open Cert.Words Idealize.ShloMosaic

/-- The precondition's bit at two words `a` and `b` and two slots. -/
theorem bit (a b : BitVec 32) (j k : Fin 8)
    (h : IntOp.andi (IntOp.andi (IntOp.cmpi .sge a 0#32) (IntOp.cmpi .slt a 128#32)) (IntOp.ori (IntOp.cmpi .ne a b) (IntOp.cmpi .eq (BitVec.ofNat 32 j.val) (BitVec.ofNat 32 k.val))) = 1#1) :
    a.toNat < 128 ∧ (a = b → j = k) := by
  have hand : ∀ u v : BitVec 1, IntOp.andi u v = 1#1 → u = 1#1 ∧ v = 1#1 := by decide
  have hbool : ∀ u : Bool, BitVec.ofBool u = 1#1 → u = true := by decide
  obtain ⟨h12, h3⟩ := hand _ _ h
  obtain ⟨h1, h2⟩ := hand _ _ h12
  have h1 : (0#32).sle a = true := hbool _ h1
  have h2 : a.slt 128#32 = true := hbool _ h2
  refine ⟨?_, fun hab => ?_⟩
  · rw [BitVec.sle_eq_decide, decide_eq_true_eq] at h1
    rw [BitVec.slt_eq_decide, decide_eq_true_eq] at h2
    have e0 : (0#32).toInt = 0 := by decide
    have e1 : (128#32).toInt = 128 := by decide
    rw [e0] at h1
    rw [e1] at h2
    rw [BitVec.toInt_eq_toNat_cond] at h1 h2
    have := a.isLt
    split at h1 <;> omega
  · rcases (ori_eq _ _ _).mp h3 with h4 | h4
    · have h4 : (a != b) = true := hbool _ h4
      exact absurd hab (bne_iff_ne.mp h4)
    · have h5 := congrArg BitVec.toNat h4
      rw [BitVec.toNat_ofNat, BitVec.toNat_ofNat] at h5
      refine Fin.ext ?_
      have := j.isLt
      have := k.isLt
      omega

variable [Facts]

/-- What the precondition holds at sequence `s`, row `r` and slots `j` and `k`. -/
theorem fn_apply (x0 : FVec Ideal S6x256x7168 .fp8e4m3) (x1 : FVec Ideal S6x256x224 .f32) (x2 : FVec Ideal S7168x128 .bf16) (x3 : IVec S6x256x8 32)
    (x4 : FVec Ideal S6x256x8 .bf16) (h : fn (F := Ideal) x0 x1 x2 x3 x4 = fun _ => 1#1) (s : Fin 6) (r : Fin 256) (j k : Fin 8) :
    (x3 (ix3 s r j)).toNat < 128 ∧ (x3 (ix3 s r j) = x3 (ix3 s r k) → j = k) := by
  have h := congrFun h (ix4 s r j k)
  unfold fn at h
  pointwise at h
  exact bit _ _ j k h

/-- Under the precondition every token names eight distinct lanes. -/
theorem distinct (x0 : FVec Ideal S6x256x7168 .fp8e4m3) (x1 : FVec Ideal S6x256x224 .f32) (x2 : FVec Ideal S7168x128 .bf16) (x3 : IVec S6x256x8 32)
    (x4 : FVec Ideal S6x256x8 .bf16) (h : fn (F := Ideal) x0 x1 x2 x3 x4 = fun _ => 1#1) (t : Fin 1536) : Row.Distinct (Spec.flat x3 t) where
  lt j := (fn_apply x0 x1 x2 x3 x4 h _ _ j j).1
  inj j k hjk := (fn_apply x0 x1 x2 x3 x4 h _ _ j k).2 hjk

end Cert.Pre_distinct_experts

end
-- ==== Proof.Equal.lean ====
/-
  The equation: from memories that agree on the arguments, and when every token names eight distinct lanes, the kernel's three arrays are the reference's three
  results.
-/
module

public import proofs.«01_k».proof.Proof.Arrays
public import proofs.«01_k».proof.Proof.Results
public import proofs.«01_k».proof.Proof.Pre

@[expose] public section

set_option maxRecDepth 16384

noncomputable section

namespace Cert.Equal

open Idealize.ShloMosaic Idealize.SL.Sem

/-- A memory of the kernel's program. -/
abbrev Mem := (ℓ : Loc Cert.KernelIdeal.nD Cert.KernelIdeal.τ Cert.KernelIdeal.sig) → Buf (Elt Ideal) ℓ
/-- A memory of the reference's program. -/
abbrev Mem' := (ℓ : Loc Cert.ReferenceIdeal.nD Cert.ReferenceIdeal.τ Cert.ReferenceIdeal.sig) → Buf (Elt Ideal) ℓ

/-- The two memories hold the same arguments on every device. -/
def Agree (m : Mem) (m' : Mem') : Prop :=
  ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)

variable [Cert.Pre_distinct_experts.Facts] (m : Mem) (m' : Mem') (hp : Cert.Pre_KernelIdeal_distinct_experts m) (h : Agree m m')

include hp in
/-- The kernel's logit gradients, computed lane by lane, are those computed slot by slot. -/
theorem lanes (c : Dev Cert.KernelIdeal.nD) :
    Cert.KernelIdeal.Tile.DL m c =
      Spec.dl (Cert.KernelIdeal.Tile.codes m c) (Cert.KernelIdeal.Tile.scales m c) (Cert.KernelIdeal.Tile.weights m c)
        (Cert.KernelIdeal.Tile.experts m c) (Cert.KernelIdeal.Tile.gates m c) :=
  Spec.dlLanes_eq _ _ _ _ _ fun t => Cert.Pre_distinct_experts.distinct _ _ _ _ _ (hp c) t

include h

/-- The codes agree. -/
theorem codes (c : Dev Cert.KernelIdeal.nD) : Cert.ReferenceIdeal.Stages.codes m' c = Cert.KernelIdeal.Tile.codes m c :=
  congrArg (Spec.flat (α := EReal) (n := 7168)) (h c).1

/-- The scales agree. -/
theorem scales (c : Dev Cert.KernelIdeal.nD) : Cert.ReferenceIdeal.Stages.scales m' c = Cert.KernelIdeal.Tile.scales m c :=
  congrArg (Spec.flat (α := EReal) (n := 224)) (h c).2.1

/-- The router weights agree. -/
theorem weights (c : Dev Cert.KernelIdeal.nD) : Cert.ReferenceIdeal.Stages.weights m' c = Cert.KernelIdeal.Tile.weights m c :=
  congrArg (Spec.mat (α := EReal) (p := 7168) (n := 128)) (h c).2.2.1

/-- The expert ids agree. -/
theorem experts (c : Dev Cert.KernelIdeal.nD) : Cert.ReferenceIdeal.Stages.experts m' c = Cert.KernelIdeal.Tile.experts m c :=
  congrArg (Spec.flat (α := BitVec 32) (n := 8)) (h c).2.2.2.1

/-- The gate gradients agree. -/
theorem gates (c : Dev Cert.KernelIdeal.nD) : Cert.ReferenceIdeal.Stages.gates m' c = Cert.KernelIdeal.Tile.gates m c :=
  congrArg (Spec.flat (α := EReal) (n := 8)) (h c).2.2.2.2

include hp

/-- The reference's logit gradients are the kernel's, as functions of the arguments. -/
theorem grads (c : Dev Cert.KernelIdeal.nD) : Cert.ReferenceIdeal.Stages.DL m' c = Cert.KernelIdeal.Tile.DL m c := by
  rw [lanes m hp c]
  show Spec.dl (Cert.ReferenceIdeal.Stages.codes m' c) (Cert.ReferenceIdeal.Stages.scales m' c) (Cert.ReferenceIdeal.Stages.weights m' c)
    (Cert.ReferenceIdeal.Stages.experts m' c) (Cert.ReferenceIdeal.Stages.gates m' c) = _
  rw [codes m m' h c, scales m m' h c, weights m m' h c, experts m m' h c, gates m m' h c]

/-- **`dx`**: the reference's result is the kernel's array. -/
theorem dx (c : Dev Cert.KernelIdeal.nD) : Cert.ReferenceIdeal.Value.res_main_v44 m' c = (Cert.KernelIdeal.Gen.dats m 0 c).arrAt 5 Cert.KernelIdeal.cfg0.N := by
  refine (Cert.ReferenceIdeal.Stages.dx_result m' c).trans (Eq.trans ?_ (Cert.KernelIdeal.Tile.dx_array m c).symm)
  rw [grads m m' hp h c, weights m m' h c]

/-- **`dw`**: the reference's result is the kernel's array. -/
theorem dw (c : Dev Cert.KernelIdeal.nD) : Cert.ReferenceIdeal.Value.res_main_v45 m' c = (Cert.KernelIdeal.Gen.dats m 0 c).arrAt 6 Cert.KernelIdeal.cfg0.N := by
  refine (Cert.ReferenceIdeal.Stages.dw_result m' c).trans (Eq.trans ?_ (Cert.KernelIdeal.Tile.dw_array m c).symm)
  rw [grads m m' hp h c, codes m m' h c, scales m m' h c]

/-- **The logit gradients**: the reference's result is the kernel's array. -/
theorem dl (c : Dev Cert.KernelIdeal.nD) : Cert.ReferenceIdeal.Value.res_main_v41 m' c = (Cert.KernelIdeal.Gen.dats m 0 c).arrAt 7 Cert.KernelIdeal.cfg0.N := by
  refine (Cert.ReferenceIdeal.Stages.dl_result m' c).trans (Eq.trans ?_ (Cert.KernelIdeal.Tile.dl_array m c).symm)
  rw [grads m m' hp h c]

end Cert.Equal

end
-- ==== Proof.lean ====
module

public import proofs.«01_k».proof.Defs
public import proofs.«01_k».proof.Proof.Gen.Kernel.Frame
public import proofs.«01_k».proof.Proof.Gen.KernelIdeal.Frame
public import proofs.«01_k».proof.Proof.Gen.KernelIdeal.Value
public import proofs.«01_k».proof.Proof.Gen.ReferenceIdeal.Frame
public import proofs.«01_k».proof.Proof.Gen.ReferenceIdeal.Run
public import proofs.«01_k».proof.Proof.Gen.ReferenceIdeal.Read
public import proofs.«01_k».proof.Proof.Gen.Pre_distinct_experts
public import proofs.«01_k».proof.Proof.Equal

@[expose] public section

noncomputable section

namespace Cert.Proof

open Idealize.ShloMosaic Idealize.SL.Sem Cert.Kernel

attribute [local instance] Cert.KernelIdeal.Gen.facts Cert.ReferenceIdeal.Gen.facts Cert.Pre_distinct_experts.Gen.facts

/-- The kernel and the reference, from the same arguments with eight distinct experts in every token, end with equal results. -/
theorem algebraic : Cert.algebraic_KernelIdeal_ReferenceIdeal_pre_distinct_experts := by
  intro m g m' g' hp h
  refine ⟨fun c => (Cert.KernelIdeal.Gen.dats m 0 c).arrAt 5 Cert.KernelIdeal.cfg0.N, fun c => (Cert.KernelIdeal.Gen.dats m 0 c).arrAt 6 Cert.KernelIdeal.cfg0.N,
    fun c => (Cert.KernelIdeal.Gen.dats m 0 c).arrAt 7 Cert.KernelIdeal.cfg0.N, Cert.KernelIdeal.Value.run_blocks m g, ?_⟩
  refine (θ_run _ _ _).mono (fun r hr c => ?_) (Cert.ReferenceIdeal.Value.run m' g')
  obtain ⟨h0, h1, h2, ha⟩ := hr c
  exact ⟨h0.trans (Cert.Equal.dx m m' hp h c), h1.trans (Cert.Equal.dw m m' hp h c), h2.trans (Cert.Equal.dl m m' hp h c), ha⟩

/-- Everything claimed. -/
theorem claim : Cert.Claim := ⟨Cert.Kernel.Gen.facts, Cert.KernelIdeal.Gen.facts, Cert.ReferenceIdeal.Gen.facts, Cert.Pre_distinct_experts.Gen.facts,
  fun m ρ _ => Cert.Kernel.Gen.frame m ρ, fun m ρ _ => Cert.KernelIdeal.Gen.frame m ρ, fun m ρ _ => Cert.KernelIdeal.Gen.frame m ρ,
  fun m ρ _ => Cert.ReferenceIdeal.Gen.frame m ρ, fun m ρ _ => Cert.ReferenceIdeal.Gen.frame m ρ, trivial, algebraic⟩

end Cert.Proof

end
